-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "gamma0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gamma1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "gamma2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "gamma3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.KernelIdeal.κ "gamma4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "gamma5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "gamma6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.KernelIdeal.κ "gamma7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v8) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x3072 : Shape := ⟨2, ![8192, 3072]⟩
abbrev S8192x8192 : Shape := ⟨2, ![8192, 8192]⟩
abbrev S8192x2048 : Shape := ⟨2, ![8192, 2048]⟩
abbrev S1x2048 : Shape := ⟨2, ![1, 2048]⟩
abbrev S4x256x256 : Shape := ⟨3, ![4, 256, 256]⟩
abbrev S1x1024 : Shape := ⟨2, ![1, 1024]⟩
abbrev S1024x2048 : Shape := ⟨2, ![1024, 2048]⟩
abbrev S2048x2048 : Shape := ⟨2, ![2048, 2048]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  slices_S8192x8192_S8192x2048_0_0 : S8192x8192.Slices ![0, 0] S8192x2048
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x3072 .bf16) (main_arg1 : FVec F S8192x8192 .bf16) (main_arg2 : FVec F S8192x2048 .f32) (main_arg3 : FVec F S1x2048 .f32) (main_arg4 : FVec F S4x256x256 .f32) (main_arg5 : FVec F S1x1024 .f32) (main_arg6 : FVec F S1024x2048 .bf16) (main_arg7 : FVec F S2048x2048 .bf16) (main_arg8 : FVec F S2048x2048 .bf16) (main_arg9 : FVec F S1x2048 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x2048 .bf16 := (extractStridedSlice S8192x2048 ![0, 0] · slices_S8192x8192_S8192x2048_0_0) main_arg1
  let main_v6 : FVec F S8192x2048 .f32 := (extf .f32 · bitsLt_bf16_f32) main_v5
  let main_v7 : FVec F S8192x2048 .f32 := Host.absf main_v6
  let main_cst_0 : FVec F S_ .f32 := constant S_ .f32 0x7F800000#32
  let main_v8 : FVec F S8192x2048 .f32 := broadcastInDim S8192x2048 ![] bcast_S_S8192x2048 main_cst_0
  let main_v9 : IVec S8192x2048 1 := cmpf .olt main_v7 main_v8
  let main_c_1 : IVec S_ 1 := constantI S_ 1 1#1
  let main_v10 : IVec S_ 1 := (fun x v => Host.reduce IntOp.andi x v reducesTo_S8192x2048_S_d0_1 h_S_) main_v9 main_c_1
  let main_v11 : IVec S_ 1 := andi main_v4 main_v10
  main_v11
-- ==== Kernel.lean ====
abbrev S8192x3072 : Shape := ⟨2, ![8192, 3072]⟩
abbrev S8192x8192 : Shape := ⟨2, ![8192, 8192]⟩
abbrev S8192x2048 : Shape := ⟨2, ![8192, 2048]⟩
abbrev S1x2048 : Shape := ⟨2, ![1, 2048]⟩
abbrev S4x256x256 : Shape := ⟨3, ![4, 256, 256]⟩
abbrev S1x1024 : Shape := ⟨2, ![1, 1024]⟩
abbrev S1024x2048 : Shape := ⟨2, ![1024, 2048]⟩
abbrev S2048x2048 : Shape := ⟨2, ![2048, 2048]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S256x1024 : Shape := ⟨2, ![256, 1024]⟩
abbrev S256x2048 : Shape := ⟨2, ![256, 2048]⟩
abbrev S16x1024 : Shape := ⟨2, ![16, 1024]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩
abbrev S1x256x128 : Shape := ⟨3, ![1, 256, 128]⟩
abbrev S16x16 : Shape := ⟨2, ![16, 16]⟩
abbrev S16x256 : Shape := ⟨2, ![16, 256]⟩
abbrev S240x256 : Shape := ⟨2, ![240, 256]⟩

abbrev nBuf : Space → Nat
  | .hbm => 132
  | .vmem => 37
  | .smem => 0
  | _ => 0

abbrev hbmTy0_0 (i : Nat) : BufTy := match i % 128 with
  | 0 => ⟨S8192x3072, .bf16⟩
  | 1 => ⟨S8192x8192, .bf16⟩
  | 2 => ⟨S8192x2048, .f32⟩
  | 3 => ⟨S1x2048, .f32⟩
  | 4 => ⟨S4x256x256, .f32⟩
  | 5 => ⟨S1x1024, .f32⟩
  | 6 => ⟨S1024x2048, .bf16⟩
  | 7 => ⟨S2048x2048, .bf16⟩
  | 8 => ⟨S2048x2048, .bf16⟩
  | 9 => ⟨S1x2048, .f32⟩
  | 10 => ⟨S4x256x256, .bf16⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x64, .f32⟩
  | 27 => ⟨S4096x128, .f32⟩
  | 28 => ⟨S4096x64, .f32⟩
  | 29 => ⟨S4096x64, .f32⟩
  | 30 => ⟨S4096x64, .f32⟩
  | 31 => ⟨S4096x128, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S256, .i32⟩
  | 44 => ⟨S256x1, .i32⟩
  | 45 => ⟨S1x256, .i32⟩
  | 46 => ⟨S256x256, .i32⟩
  | 47 => ⟨S256x256, .i32⟩
  | 48 => ⟨S256x256, .i32⟩
  | 49 => ⟨S256x256, .i32⟩
  | 50 => ⟨S256x256, .f32⟩
  | 51 => ⟨S1x256, .i32⟩
  | 52 => ⟨S_, .i32⟩
  | 53 => ⟨S_, .i32⟩
  | 54 => ⟨S1x256, .i32⟩
  | 55 => ⟨S1x256, .i32⟩
  | 56 => ⟨S1x256, .i32⟩
  | 57 => ⟨S_, .i32⟩
  | 58 => ⟨S1x256, .i32⟩
  | 59 => ⟨S1x256, .i1⟩
  | 60 => ⟨S1x256, .i32⟩
  | 61 => ⟨S1x256, .i32⟩
  | 62 => ⟨S_, .i32⟩
  | 63 => ⟨S1x256, .i32⟩
  | 64 => ⟨S1x256, .i1⟩
  | 65 => ⟨S1x256, .i1⟩
  | 66 => ⟨S_, .i32⟩
  | 67 => ⟨S1x256, .i32⟩
  | 68 => ⟨S1x256, .i32⟩
  | 69 => ⟨S1x256, .i32⟩
  | 70 => ⟨S256x1, .i32⟩
  | 71 => ⟨S_, .i32⟩
  | 72 => ⟨S_, .i32⟩
  | 73 => ⟨S256x1, .i32⟩
  | 74 => ⟨S256x1, .i32⟩
  | 75 => ⟨S256x1, .i32⟩
  | 76 => ⟨S_, .i32⟩
  | 77 => ⟨S256x1, .i32⟩
  | 78 => ⟨S256x1, .i1⟩
  | 79 => ⟨S256x1, .i32⟩
  | 80 => ⟨S256x1, .i32⟩
  | 81 => ⟨S_, .i32⟩
  | 82 => ⟨S256x1, .i32⟩
  | 83 => ⟨S256x1, .i1⟩
  | 84 => ⟨S256x1, .i1⟩
  | 85 => ⟨S_, .i32⟩
  | 86 => ⟨S256x1, .i32⟩
  | 87 => ⟨S256x1, .i32⟩
  | 88 => ⟨S256x1, .i32⟩
  | 89 => ⟨S256x256, .i32⟩
  | 90 => ⟨S256x256, .i32⟩
  | 91 => ⟨S256x256, .i1⟩
  | 92 => ⟨S1x256x256, .i1⟩
  | 93 => ⟨S1x256x256, .f32⟩
  | 94 => ⟨S8x1x1, .f32⟩
  | 95 => ⟨S8x256x256, .f32⟩
  | 96 => ⟨S8x256x256, .f32⟩
  | 97 => ⟨S8x256x256, .f32⟩
  | 98 => ⟨S8x256x256, .f32⟩
  | 99 => ⟨S_, .f32⟩
  | 100 => ⟨S_, .f32⟩
  | 101 => ⟨S8x256x256, .i1⟩
  | 102 => ⟨S8x256x256, .f32⟩
  | 103 => ⟨S8x256x256, .f32⟩
  | 104 => ⟨S256, .f32⟩
  | 105 => ⟨S_, .f32⟩
  | 106 => ⟨S256, .f32⟩
  | 107 => ⟨S256, .f32⟩
  | 108 => ⟨S1x256, .f32⟩
  | 109 => ⟨S8x1, .f32⟩
  | 110 => ⟨S1x256, .f32⟩
  | 111 => ⟨S8x256, .f32⟩
  | 112 => ⟨S8x256, .f32⟩
  | 113 => ⟨S8x256, .f32⟩
  | 114 => ⟨S8x256, .f32⟩
  | 115 => ⟨S256, .f32⟩
  | 116 => ⟨S_, .f32⟩
  | 117 => ⟨S256, .f32⟩
  | 118 => ⟨S256, .f32⟩
  | 119 => ⟨S1x256, .f32⟩
  | 120 => ⟨S8x1, .f32⟩
  | 121 => ⟨S1x256, .f32⟩
  | 122 => ⟨S8x256, .f32⟩
  | 123 => ⟨S8x256, .f32⟩
  | 124 => ⟨S8x256, .f32⟩
  | 125 => ⟨S8x256, .f32⟩
  | 126 => ⟨S8x256x1, .f32⟩
  | 127 => ⟨S8x256x128, .f32⟩
  | _ => ⟨S8192x3072, .bf16⟩

abbrev hbmTy0_1 (i : Nat) : BufTy := match i % 128 with
  | 0 => ⟨S8x256x1, .f32⟩
  | 1 => ⟨S8x256x128, .f32⟩
  | 2 => ⟨S8192x2048, .f32⟩
  | 3 => ⟨S8192x2048, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | .local _ .vmem, ⟨14, _⟩ => ⟨S16x1024, .bf16⟩
  | .local _ .vmem, ⟨15, _⟩ => ⟨S16x1024, .bf16⟩
  | .local _ .vmem, ⟨16, _⟩ => ⟨S256x2048, .f32⟩
  | .local _ .vmem, ⟨17, _⟩ => ⟨S256x2048, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S8x256x256, .f32⟩
  | .local _ .vmem, ⟨23, _⟩ => ⟨S8x256x128, .f32⟩
  | .local _ .vmem, ⟨24, _⟩ => ⟨S8x256x128, .f32⟩
  | .local _ .vmem, ⟨25, _⟩ => ⟨S1x2048, .f32⟩
  | .local _ .vmem, ⟨26, _⟩ => ⟨S4x256x256, .bf16⟩
  | .local _ .vmem, ⟨27, _⟩ => ⟨S1x1024, .f32⟩
  | .local _ .vmem, ⟨28, _⟩ => ⟨S1024x2048, .bf16⟩
  | .local _ .vmem, ⟨29, _⟩ => ⟨S2048x2048, .bf16⟩
  | .local _ .vmem, ⟨30, _⟩ => ⟨S2048x2048, .bf16⟩
  | .local _ .vmem, ⟨31, _⟩ => ⟨S1x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .bf16⟩
  | .local _ .vmem, ⟨35, _⟩ => ⟨S256x2048, .bf16⟩
  | .local _ .vmem, ⟨36, _⟩ => ⟨S8x128x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v37 : Ref sig .tc := ⟨.hbm, 69, rfl⟩
abbrev main_v38 : Ref sig .tc := ⟨.hbm, 70, rfl⟩
abbrev main_c_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_5 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v50 : Ref sig .tc := ⟨.hbm, 103, rfl⟩
abbrev main_v51 : Ref sig .tc := ⟨.hbm, 104, rfl⟩
abbrev main_cst_6 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_7 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75_0 : Ref sig .tc := ⟨.hbm, 130, rfl⟩
abbrev main_v75_1 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S8x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2048x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2048x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KernelIdeal.lean ====
variable {F : FTy → Type} [FloatOps F] [Named F]
def κ : String → Option EReal := fun
  | "gamma0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "gamma4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "gamma5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "gamma6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "gamma7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | _ => none
-- ==== ReferenceIdeal.lean ====
abbrev S8192x3072 : Shape := ⟨2, ![8192, 3072]⟩
abbrev S8192x8192 : Shape := ⟨2, ![8192, 8192]⟩
abbrev S8192x2048 : Shape := ⟨2, ![8192, 2048]⟩
abbrev S1x2048 : Shape := ⟨2, ![1, 2048]⟩
abbrev S4x256x256 : Shape := ⟨3, ![4, 256, 256]⟩
abbrev S1x1024 : Shape := ⟨2, ![1, 1024]⟩
abbrev S1024x2048 : Shape := ⟨2, ![1024, 2048]⟩
abbrev S2048x2048 : Shape := ⟨2, ![2048, 2048]⟩
abbrev S2x4096x3072 : Shape := ⟨3, ![2, 4096, 3072]⟩
abbrev S2x4096x8192 : Shape := ⟨3, ![2, 4096, 8192]⟩
abbrev S2x4096x2048 : Shape := ⟨3, ![2, 4096, 2048]⟩
abbrev S2x4096x1024 : Shape := ⟨3, ![2, 4096, 1024]⟩
abbrev S_ : Shape := ⟨0, ![]⟩
abbrev S2x4097x1024 : Shape := ⟨3, ![2, 4097, 1024]⟩
abbrev S4096 : Shape := ⟨1, ![4096]⟩
abbrev S2x4097x256 : Shape := ⟨3, ![2, 4097, 256]⟩
abbrev S2x4096x256 : Shape := ⟨3, ![2, 4096, 256]⟩
abbrev S4096x1 : Shape := ⟨2, ![4096, 1]⟩
abbrev S1x4096x1 : Shape := ⟨3, ![1, 4096, 1]⟩
abbrev S2x4096x4x256 : Shape := ⟨4, ![2, 4096, 4, 256]⟩
abbrev S4x256x2x4096 : Shape := ⟨4, ![4, 256, 2, 4096]⟩
abbrev S1x1x1024 : Shape := ⟨3, ![1, 1, 1024]⟩
abbrev S2x4096x8x128 : Shape := ⟨4, ![2, 4096, 8, 128]⟩
abbrev S64 : Shape := ⟨1, ![64]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S2x4096x8x256 : Shape := ⟨4, ![2, 4096, 8, 256]⟩
abbrev S8 : Shape := ⟨1, ![8]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S1x1x2048 : Shape := ⟨3, ![1, 1, 2048]⟩
abbrev S2x4096 : Shape := ⟨2, ![2, 4096]⟩
abbrev S2x4096x1 : Shape := ⟨3, ![2, 4096, 1]⟩

abbrev nBuf : Space → Nat
  | .hbm => 331
  | .vmem => 0
  | .smem => 0
  | _ => 0

abbrev hbmTy0_0 (i : Nat) : BufTy := match i % 128 with
  | 0 => ⟨S8192x3072, .bf16⟩
  | 1 => ⟨S8192x8192, .bf16⟩
  | 2 => ⟨S8192x2048, .f32⟩
  | 3 => ⟨S1x2048, .f32⟩
  | 4 => ⟨S4x256x256, .f32⟩
  | 5 => ⟨S1x1024, .f32⟩
  | 6 => ⟨S1024x2048, .bf16⟩
  | 7 => ⟨S2048x2048, .bf16⟩
  | 8 => ⟨S2048x2048, .bf16⟩
  | 9 => ⟨S1x2048, .f32⟩
  | 10 => ⟨S8192x3072, .f32⟩
  | 11 => ⟨S2x4096x3072, .f32⟩
  | 12 => ⟨S8192x8192, .f32⟩
  | 13 => ⟨S2x4096x8192, .f32⟩
  | 14 => ⟨S2x4096x2048, .f32⟩
  | 15 => ⟨S2x4096x1024, .f32⟩
  | 16 => ⟨S2x4096x1024, .f32⟩
  | 17 => ⟨S2x4096x1024, .f32⟩
  | 18 => ⟨S2x4096x2048, .f32⟩
  | 19 => ⟨S2x4096x2048, .f32⟩
  | 20 => ⟨S2x4096x2048, .f32⟩
  | 21 => ⟨S2x4096x2048, .f32⟩
  | 22 => ⟨S_, .f32⟩
  | 23 => ⟨S_, .f32⟩
  | 24 => ⟨S2x4096x1024, .f32⟩
  | 25 => ⟨S_, .i32⟩
  | 26 => ⟨S_, .f32⟩
  | 27 => ⟨S2x4097x1024, .f32⟩
  | 28 => ⟨S4096, .i32⟩
  | 29 => ⟨S2x4097x256, .f32⟩
  | 30 => ⟨S2x4096x256, .f32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096x1, .i32⟩
  | 41 => ⟨S2x4096x256, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .f32⟩
  | 49 => ⟨S2x4096x256, .f32⟩
  | 50 => ⟨S1x4096x1, .f32⟩
  | 51 => ⟨S2x4096x256, .f32⟩
  | 52 => ⟨S2x4096x256, .f32⟩
  | 53 => ⟨S2x4097x256, .f32⟩
  | 54 => ⟨S2x4096x256, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096x1, .i32⟩
  | 65 => ⟨S2x4096x256, .f32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .f32⟩
  | 73 => ⟨S2x4096x256, .f32⟩
  | 74 => ⟨S1x4096x1, .f32⟩
  | 75 => ⟨S2x4096x256, .f32⟩
  | 76 => ⟨S2x4096x256, .f32⟩
  | 77 => ⟨S2x4097x256, .f32⟩
  | 78 => ⟨S2x4096x256, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096x1, .i32⟩
  | 89 => ⟨S2x4096x256, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S2x4096x256, .f32⟩
  | 98 => ⟨S1x4096x1, .f32⟩
  | 99 => ⟨S2x4096x256, .f32⟩
  | 100 => ⟨S2x4096x256, .f32⟩
  | 101 => ⟨S2x4097x256, .f32⟩
  | 102 => ⟨S2x4096x256, .f32⟩
  | 103 => ⟨S_, .i32⟩
  | 104 => ⟨S4096, .i32⟩
  | 105 => ⟨S4096, .i32⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S4096x1, .i32⟩
  | 113 => ⟨S2x4096x256, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S2x4096x256, .f32⟩
  | 122 => ⟨S1x4096x1, .f32⟩
  | 123 => ⟨S2x4096x256, .f32⟩
  | 124 => ⟨S2x4096x256, .f32⟩
  | 125 => ⟨S2x4096x1024, .f32⟩
  | 126 => ⟨S2x4096x1024, .f32⟩
  | 127 => ⟨S2x4096x4x256, .f32⟩
  | _ => ⟨S8192x3072, .bf16⟩

abbrev hbmTy0_1 (i : Nat) : BufTy := match i % 128 with
  | 0 => ⟨S4x256x2x4096, .f32⟩
  | 1 => ⟨S2x4096x4x256, .f32⟩
  | 2 => ⟨S2x4096x1024, .f32⟩
  | 3 => ⟨S1x1x1024, .f32⟩
  | 4 => ⟨S2x4096x1024, .f32⟩
  | 5 => ⟨S2x4096x1024, .f32⟩
  | 6 => ⟨S1024x2048, .f32⟩
  | 7 => ⟨S2x4096x2048, .f32⟩
  | 8 => ⟨S2x4096x8x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S4096, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S1x4096x1x64, .f32⟩
  | 25 => ⟨S4096x64, .f32⟩
  | 26 => ⟨S1x4096x1x64, .f32⟩
  | 27 => ⟨S2x4096x8x64, .f32⟩
  | 28 => ⟨S2x4096x8x64, .f32⟩
  | 29 => ⟨S2x4096x8x64, .f32⟩
  | 30 => ⟨S2x4096x8x64, .f32⟩
  | 31 => ⟨S2x4096x8x64, .f32⟩
  | 32 => ⟨S2x4096x8x64, .f32⟩
  | 33 => ⟨S2x4096x8x64, .f32⟩
  | 34 => ⟨S2x4096x8x64, .f32⟩
  | 35 => ⟨S2x4096x8x64, .f32⟩
  | 36 => ⟨S2x4096x8x64, .f32⟩
  | 37 => ⟨S2x4096x8x64, .f32⟩
  | 38 => ⟨S2x4096x8x64, .f32⟩
  | 39 => ⟨S2x4096x8x128, .f32⟩
  | 40 => ⟨S2x4096x8x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S4096, .f32⟩
  | 50 => ⟨S4096x1, .f32⟩
  | 51 => ⟨S1x64, .f32⟩
  | 52 => ⟨S4096x64, .f32⟩
  | 53 => ⟨S4096x64, .f32⟩
  | 54 => ⟨S4096x64, .f32⟩
  | 55 => ⟨S4096x64, .f32⟩
  | 56 => ⟨S1x4096x1x64, .f32⟩
  | 57 => ⟨S4096x64, .f32⟩
  | 58 => ⟨S1x4096x1x64, .f32⟩
  | 59 => ⟨S2x4096x8x64, .f32⟩
  | 60 => ⟨S2x4096x8x64, .f32⟩
  | 61 => ⟨S2x4096x8x64, .f32⟩
  | 62 => ⟨S2x4096x8x64, .f32⟩
  | 63 => ⟨S2x4096x8x64, .f32⟩
  | 64 => ⟨S2x4096x8x64, .f32⟩
  | 65 => ⟨S2x4096x8x64, .f32⟩
  | 66 => ⟨S2x4096x8x64, .f32⟩
  | 67 => ⟨S2x4096x8x64, .f32⟩
  | 68 => ⟨S2x4096x8x64, .f32⟩
  | 69 => ⟨S2x4096x8x64, .f32⟩
  | 70 => ⟨S2x4096x8x64, .f32⟩
  | 71 => ⟨S2x4096x8x128, .f32⟩
  | 72 => ⟨S_, .f32⟩
  | 73 => ⟨S2x4096x8x128, .f32⟩
  | 74 => ⟨S2x4096x8x128, .f32⟩
  | 75 => ⟨S2x4096x8x256, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S4096, .i32⟩
  | 88 => ⟨S4096x1, .i32⟩
  | 89 => ⟨S1x4096, .i32⟩
  | 90 => ⟨S4096x4096, .i32⟩
  | 91 => ⟨S4096x4096, .i32⟩
  | 92 => ⟨S4096x4096, .i32⟩
  | 93 => ⟨S4096x4096, .i32⟩
  | 94 => ⟨S4096x4096, .f32⟩
  | 95 => ⟨S_, .i32⟩
  | 96 => ⟨S4096, .i32⟩
  | 97 => ⟨S4096, .i32⟩
  | 98 => ⟨S1x4096, .i32⟩
  | 99 => ⟨S_, .i32⟩
  | 100 => ⟨S4096, .i32⟩
  | 101 => ⟨S4096, .i32⟩
  | 102 => ⟨S4096x1, .i32⟩
  | 103 => ⟨S4096x4096, .i32⟩
  | 104 => ⟨S4096x4096, .i32⟩
  | 105 => ⟨S4096x4096, .i1⟩
  | 106 => ⟨S1x4096x4096, .f32⟩
  | 107 => ⟨S8x1x1, .f32⟩
  | 108 => ⟨S8x4096x4096, .f32⟩
  | 109 => ⟨S8x4096x4096, .f32⟩
  | 110 => ⟨S8x4096x4096, .f32⟩
  | 111 => ⟨S8x4096x4096, .f32⟩
  | 112 => ⟨S1x4096x4096, .i1⟩
  | 113 => ⟨S8x4096x4096, .i1⟩
  | 114 => ⟨S_, .f32⟩
  | 115 => ⟨S8x4096x4096, .f32⟩
  | 116 => ⟨S8x4096x4096, .f32⟩
  | 117 => ⟨S2x8x4096x4096, .f32⟩
  | 118 => ⟨S1x8x4096x4096, .f32⟩
  | 119 => ⟨S2x8x4096x4096, .f32⟩
  | 120 => ⟨S2x8x4096x4096, .f32⟩
  | 121 => ⟨S2x8x256x4096, .f32⟩
  | 122 => ⟨S2x4096x8x256, .f32⟩
  | 123 => ⟨S_, .f32⟩
  | 124 => ⟨S2x4096x8, .f32⟩
  | 125 => ⟨S2x4096x8x1, .f32⟩
  | 126 => ⟨S_, .f32⟩
  | 127 => ⟨S2x4096x8x1, .f32⟩
  | _ => ⟨S8192x3072, .bf16⟩

abbrev hbmTy0_2 (i : Nat) : BufTy := match i % 128 with
  | 0 => ⟨S2x4096x8x1, .f32⟩
  | 1 => ⟨S2x4096x8x256, .f32⟩
  | 2 => ⟨S2x4096x8x256, .f32⟩
  | 3 => ⟨S2x4096x8x256, .f32⟩
  | 4 => ⟨S_, .f32⟩
  | 5 => ⟨S2x4096x8, .f32⟩
  | 6 => ⟨S2x4096x8x1, .f32⟩
  | 7 => ⟨S_, .f32⟩
  | 8 => ⟨S2x4096x8x1, .f32⟩
  | 9 => ⟨S2x4096x8x1, .f32⟩
  | 10 => ⟨S2x4096x8x256, .f32⟩
  | 11 => ⟨S2x4096x8x256, .f32⟩
  | 12 => ⟨S_, .f32⟩
  | 13 => ⟨S2x4096x8x1, .f32⟩
  | 14 => ⟨S2x4096x8x1, .f32⟩
  | 15 => ⟨S2x4096x8x1, .f32⟩
  | 16 => ⟨S2x4096x8x256, .f32⟩
  | 17 => ⟨S2x4096x8x256, .f32⟩
  | 18 => ⟨S2x4096x2048, .f32⟩
  | 19 => ⟨S1x1x2048, .f32⟩
  | 20 => ⟨S2x4096x2048, .f32⟩
  | 21 => ⟨S2x4096x2048, .f32⟩
  | 22 => ⟨S2x4096x2048, .f32⟩
  | 23 => ⟨S2x4096x2048, .f32⟩
  | 24 => ⟨S_, .f32⟩
  | 25 => ⟨S2x4096x2048, .f32⟩
  | 26 => ⟨S2x4096x2048, .f32⟩
  | 27 => ⟨S_, .f32⟩
  | 28 => ⟨S2x4096x2048, .f32⟩
  | 29 => ⟨S2x4096x2048, .f32⟩
  | 30 => ⟨S2x4096x2048, .f32⟩
  | 31 => ⟨S2x4096x2048, .f32⟩
  | 32 => ⟨S2048x2048, .f32⟩
  | 33 => ⟨S2x4096x2048, .f32⟩
  | 34 => ⟨S2x4096x2048, .f32⟩
  | 35 => ⟨S2x4096x2048, .f32⟩
  | 36 => ⟨S_, .f32⟩
  | 37 => ⟨S2x4096x2048, .f32⟩
  | 38 => ⟨S2x4096x2048, .f32⟩
  | 39 => ⟨S_, .f32⟩
  | 40 => ⟨S2x4096x2048, .f32⟩
  | 41 => ⟨S2x4096x2048, .f32⟩
  | 42 => ⟨S2x4096x2048, .f32⟩
  | 43 => ⟨S2x4096x2048, .f32⟩
  | 44 => ⟨S2x4096x2048, .f32⟩
  | 45 => ⟨S_, .f32⟩
  | 46 => ⟨S2x4096x2048, .f32⟩
  | 47 => ⟨S2x4096x2048, .f32⟩
  | 48 => ⟨S_, .f32⟩
  | 49 => ⟨S2x4096x2048, .f32⟩
  | 50 => ⟨S2x4096x2048, .f32⟩
  | 51 => ⟨S2x4096x2048, .f32⟩
  | 52 => ⟨S2x4096x2048, .f32⟩
  | 53 => ⟨S2048x2048, .f32⟩
  | 54 => ⟨S2x4096x2048, .f32⟩
  | 55 => ⟨S2x4096x2048, .f32⟩
  | 56 => ⟨S2x4096x2048, .f32⟩
  | 57 => ⟨S_, .f32⟩
  | 58 => ⟨S2x4096, .f32⟩
  | 59 => ⟨S2x4096x1, .f32⟩
  | 60 => ⟨S_, .f32⟩
  | 61 => ⟨S2x4096x1, .f32⟩
  | 62 => ⟨S2x4096x1, .f32⟩
  | 63 => ⟨S_, .f32⟩
  | 64 => ⟨S2x4096x1, .f32⟩
  | 65 => ⟨S2x4096x1, .f32⟩
  | 66 => ⟨S2x4096x1, .f32⟩
  | 67 => ⟨S2x4096x2048, .f32⟩
  | 68 => ⟨S2x4096x2048, .f32⟩
  | 69 => ⟨S1x1x2048, .f32⟩
  | 70 => ⟨S2x4096x2048, .f32⟩
  | 71 => ⟨S2x4096x2048, .f32⟩
  | 72 => ⟨S8192x2048, .f32⟩
  | 73 => ⟨S2x4096x2048, .bf16⟩
  | 74 => ⟨S8192x2048, .bf16⟩
  | _ => ⟨S8192x3072, .bf16⟩

abbrev hbmTy (i : Nat) : BufTy := match i / 128 with
  | 0 => hbmTy0_0 i
  | 1 => hbmTy0_1 i
  | 2 => hbmTy0_2 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_call0_cst : Ref sig .tc := ⟨.hbm, 22, rfl⟩
abbrev main_call0_call0_v0 : Ref sig .tc := ⟨.hbm, 23, rfl⟩
abbrev main_v12 : Ref sig .tc := ⟨.hbm, 24, rfl⟩
abbrev main_c : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_call2_v0 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_call4_v0 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_call5_v0 : Ref sig .tc := ⟨.hbm, 112, rfl⟩
abbrev main_v77 : Ref sig .tc := ⟨.hbm, 113, rfl⟩
abbrev main_c_18 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_21 : Ref sig .tc := ⟨.hbm, 171, rfl⟩
abbrev main_v131 : Ref sig .tc := ⟨.hbm, 172, rfl⟩
abbrev main_v132 : Ref sig .tc := ⟨.hbm, 173, rfl⟩
abbrev main_cst_22 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_23 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_24 : Ref sig .tc := ⟨.hbm, 205, rfl⟩
abbrev main_v162 : Ref sig .tc := ⟨.hbm, 206, rfl⟩
abbrev main_v163 : Ref sig .tc := ⟨.hbm, 207, rfl⟩
abbrev main_cst_25 : Ref sig .tc := ⟨.hbm, 208, rfl⟩
abbrev main_v164 : Ref sig .tc := ⟨.hbm, 209, rfl⟩
abbrev main_v165 : Ref sig .tc := ⟨.hbm, 210, rfl⟩
abbrev main_cst_26 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_c_27 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_c_28 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_29 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_cst_30 : Ref sig .tc := ⟨.hbm, 251, rfl⟩
abbrev main_v202 : Ref sig .tc := ⟨.hbm, 252, rfl⟩
abbrev main_v203 : Ref sig .tc := ⟨.hbm, 253, rfl⟩
abbrev main_cst_31 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_32 : Ref sig .tc := ⟨.hbm, 260, rfl⟩
abbrev main_v209 : Ref sig .tc := ⟨.hbm, 261, rfl⟩
abbrev main_v210 : Ref sig .tc := ⟨.hbm, 262, rfl⟩
abbrev main_cst_33 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_34 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_call6_v0 : Ref sig .tc := ⟨.hbm, 278, rfl⟩
abbrev main_call6_v1 : Ref sig .tc := ⟨.hbm, 279, rfl⟩
abbrev main_call6_cst : Ref sig .tc := ⟨.hbm, 280, rfl⟩
abbrev main_call6_v2 : Ref sig .tc := ⟨.hbm, 281, rfl⟩
abbrev main_call6_v3 : Ref sig .tc := ⟨.hbm, 282, rfl⟩
abbrev main_call6_cst_0 : Ref sig .tc := ⟨.hbm, 283, rfl⟩
abbrev main_call6_v4 : Ref sig .tc := ⟨.hbm, 284, rfl⟩
abbrev main_call6_v5 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_35 : Ref sig .tc := ⟨.hbm, 292, rfl⟩
abbrev main_v230 : Ref sig .tc := ⟨.hbm, 293, rfl⟩
abbrev main_v231 : Ref sig .tc := ⟨.hbm, 294, rfl⟩
abbrev main_cst_36 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_37 : Ref sig .tc := ⟨.hbm, 301, rfl⟩
abbrev main_v237 : Ref sig .tc := ⟨.hbm, 302, rfl⟩
abbrev main_v238 : Ref sig .tc := ⟨.hbm, 303, rfl⟩
abbrev main_cst_38 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_cst_39 : Ref sig .tc := ⟨.hbm, 313, rfl⟩
abbrev main_v247 : Ref sig .tc := ⟨.hbm, 314, rfl⟩
abbrev main_v248 : Ref sig .tc := ⟨.hbm, 315, rfl⟩
abbrev main_cst_40 : Ref sig .tc := ⟨.hbm, 316, rfl⟩
abbrev main_v249 : Ref sig .tc := ⟨.hbm, 317, rfl⟩
abbrev main_v250 : Ref sig .tc := ⟨.hbm, 318, rfl⟩
abbrev main_cst_41 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S2x4096x5632 : Shape := ⟨3, ![2, 4096, 5632]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S2x4096x5632, .f32⟩
  | .hbm, ⟨6, _⟩ => ⟨S2x4096x2048, .f32⟩
  | .hbm, ⟨7, _⟩ => ⟨S5632x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S1x1x2048, .f32⟩
  | .hbm, ⟨24, _⟩ => ⟨S2x4096x2048, .f32⟩
  | .hbm, ⟨25, _⟩ => ⟨S2x4096x2048, .f32⟩
  | .hbm, ⟨26, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S8192x2048 : Shape := ⟨2, ![8192, 2048]⟩
abbrev S2048x11264 : Shape := ⟨2, ![2048, 11264]⟩
abbrev S3x5632 : Shape := ⟨2, ![3, 5632]⟩
abbrev S1x5632 : Shape := ⟨2, ![1, 5632]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S3x512 : Shape := ⟨2, ![3, 512]⟩
abbrev S1x512 : Shape := ⟨2, ![1, 512]⟩
abbrev S128x2048 : Shape := ⟨2, ![128, 2048]⟩
abbrev S8x512 : Shape := ⟨2, ![8, 512]⟩
abbrev S1024x512 : Shape := ⟨2, ![1024, 512]⟩
abbrev S1024x2048 : Shape := ⟨2, ![1024, 2048]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x5632, .f32⟩
  | .hbm, ⟨3, _⟩ => ⟨S1x5632, .f32⟩
  | .hbm, ⟨4, _⟩ => ⟨S5632x2048, .f32⟩
  | .hbm, ⟨5, _⟩ => ⟨S8192x5632, .bf16⟩
  | .hbm, ⟨6, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S128x2048, .f32⟩
  | .local _ .vmem, ⟨11, _⟩ => ⟨S128x2048, .f32⟩
  | .local _ .vmem, ⟨12, _⟩ => ⟨S2048x512, .bf16⟩
  | .local _ .vmem, ⟨13, _⟩ => ⟨S2048x512, .bf16⟩
  | .local _ .vmem, ⟨14, _⟩ => ⟨S128x2048, .bf16⟩
  | .local _ .vmem, ⟨15, _⟩ => ⟨S128x2048, .bf16⟩
  | .local _ .vmem, ⟨16, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S2048x11264 : Shape := ⟨2, ![2048, 11264]⟩
abbrev S3x5632 : Shape := ⟨2, ![3, 5632]⟩
abbrev S1x5632 : Shape := ⟨2, ![1, 5632]⟩
abbrev S5632x2048 : Shape := ⟨2, ![5632, 2048]⟩
abbrev S2x4096x2048 : Shape := ⟨3, ![2, 4096, 2048]⟩
abbrev S2x4096x11264 : Shape := ⟨3, ![2, 4096, 11264]⟩
abbrev S2x4096x5632 : Shape := ⟨3, ![2, 4096, 5632]⟩
abbrev S_ : Shape := ⟨0, ![]⟩
abbrev S2x4098x5632 : Shape := ⟨3, ![2, 4098, 5632]⟩
abbrev S5632 : Shape := ⟨1, ![5632]⟩
abbrev S1x1x5632 : Shape := ⟨3, ![1, 1, 5632]⟩
abbrev S8192x5632 : Shape := ⟨2, ![8192, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x5632, .f32⟩
  | .hbm, ⟨3, _⟩ => ⟨S1x5632, .f32⟩
  | .hbm, ⟨4, _⟩ => ⟨S5632x2048, .f32⟩
  | .hbm, ⟨5, _⟩ => ⟨S8192x2048, .f32⟩
  | .hbm, ⟨6, _⟩ => ⟨S2x4096x2048, .f32⟩
  | .hbm, ⟨7, _⟩ => ⟨S2x4096x11264, .f32⟩
  | .hbm, ⟨8, _⟩ => ⟨S2x4096x5632, .f32⟩
  | .hbm, ⟨9, _⟩ => ⟨S2x4096x5632, .f32⟩
  | .hbm, ⟨10, _⟩ => ⟨S_, .i32⟩
  | .hbm, ⟨11, _⟩ => ⟨S_, .f32⟩
  | .hbm, ⟨12, _⟩ => ⟨S2x4098x5632, .f32⟩
  | .hbm, ⟨13, _⟩ => ⟨S2x4096x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S2x4096x5632, .f32⟩
  | .hbm, ⟨18, _⟩ => ⟨S2x4096x5632, .f32⟩
  | .hbm, ⟨19, _⟩ => ⟨S_, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x4096x5632, .f32⟩
  | .hbm, ⟨34, _⟩ => ⟨S2x4096x5632, .f32⟩
  | .hbm, ⟨35, _⟩ => ⟨S2x4096x5632, .f32⟩
  | .hbm, ⟨36, _⟩ => ⟨S1x1x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S_, .f32⟩
  | .hbm, ⟨42, _⟩ => ⟨S2x4096x5632, .f32⟩
  | .hbm, ⟨43, _⟩ => ⟨S2x4096x5632, .f32⟩
  | .hbm, ⟨44, _⟩ => ⟨S_, .f32⟩
  | .hbm, ⟨45, _⟩ => ⟨S2x4096x5632, .f32⟩
  | .hbm, ⟨46, _⟩ => ⟨S2x4096x5632, .f32⟩
  | .hbm, ⟨47, _⟩ => ⟨S2x4096x5632, .f32⟩
  | .hbm, ⟨48, _⟩ => ⟨S2x4096x5632, .f32⟩
  | .hbm, ⟨49, _⟩ => ⟨S2x4096x5632, .bf16⟩
  | .hbm, ⟨50, _⟩ => ⟨S8192x5632, .bf16⟩
  | .hbm, ⟨51, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel4.lean ====
abbrev S8192x2048 : Shape := ⟨2, ![8192, 2048]⟩
abbrev S2048x11264 : Shape := ⟨2, ![2048, 11264]⟩
abbrev S1024x2048 : Shape := ⟨2, ![1024, 2048]⟩
abbrev S2048x2048 : Shape := ⟨2, ![2048, 2048]⟩
abbrev S8192x8192 : Shape := ⟨2, ![8192, 8192]⟩
abbrev S2048x1024 : Shape := ⟨2, ![2048, 1024]⟩
abbrev S32x2048 : Shape := ⟨2, ![32, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S8192x8192, .bf16⟩
  | .hbm, ⟨6, _⟩ => ⟨S1024x2048, .bf16⟩
  | .hbm, ⟨7, _⟩ => ⟨S2048x2048, .bf16⟩
  | .hbm, ⟨8, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S32x2048, .f32⟩
  | .local _ .vmem, ⟨5, _⟩ => ⟨S32x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S2048x1024, .bf16⟩
  | .local _ .vmem, ⟨11, _⟩ => ⟨S2048x1024, .bf16⟩
  | .local _ .vmem, ⟨12, _⟩ => ⟨S32x2048, .bf16⟩
  | .local _ .vmem, ⟨13, _⟩ => ⟨S32x2048, .bf16⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x2048 : Shape := ⟨2, ![8192, 2048]⟩
abbrev S2048x11264 : Shape := ⟨2, ![2048, 11264]⟩
abbrev S1024x2048 : Shape := ⟨2, ![1024, 2048]⟩
abbrev S2048x2048 : Shape := ⟨2, ![2048, 2048]⟩
abbrev S2x4096x2048 : Shape := ⟨3, ![2, 4096, 2048]⟩
abbrev S2x4096x11264 : Shape := ⟨3, ![2, 4096, 11264]⟩
abbrev S2x4096x8192 : Shape := ⟨3, ![2, 4096, 8192]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S2x4096x2048, .f32⟩
  | .hbm, ⟨7, _⟩ => ⟨S2x4096x11264, .f32⟩
  | .hbm, ⟨8, _⟩ => ⟨S2x4096x8192, .f32⟩
  | .hbm, ⟨9, _⟩ => ⟨S2x4096x8192, .bf16⟩
  | .hbm, ⟨10, _⟩ => ⟨S8192x8192, .bf16⟩
  | .hbm, ⟨11, _⟩ => ⟨S1024x2048, .bf16⟩
  | .hbm, ⟨12, _⟩ => ⟨S2048x2048, .bf16⟩
  | .hbm, ⟨13, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S2x4096x2048 : Shape := ⟨3, ![2, 4096, 2048]⟩
abbrev S1x2048 : Shape := ⟨2, ![1, 2048]⟩
abbrev S2048x11264 : Shape := ⟨2, ![2048, 11264]⟩
abbrev S8192x2048 : Shape := ⟨2, ![8192, 2048]⟩
abbrev S8192x3072 : Shape := ⟨2, ![8192, 3072]⟩
abbrev S512x2048 : Shape := ⟨2, ![512, 2048]⟩
abbrev S2048x3072 : Shape := ⟨2, ![2048, 3072]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2048x11264, .f32⟩
  | .hbm, ⟨3, _⟩ => ⟨S8192x2048, .f32⟩
  | .hbm, ⟨4, _⟩ => ⟨S8192x2048, .bf16⟩
  | .hbm, ⟨5, _⟩ => ⟨S8192x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .f32⟩
  | .local _ .vmem, ⟨4, _⟩ => ⟨S512x2048, .bf16⟩
  | .local _ .vmem, ⟨5, _⟩ => ⟨S512x2048, .bf16⟩
  | .local _ .vmem, ⟨6, _⟩ => ⟨S512x3072, .bf16⟩
  | .local _ .vmem, ⟨7, _⟩ => ⟨S512x3072, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x4096x2048 : Shape := ⟨3, ![2, 4096, 2048]⟩
abbrev S1x2048 : Shape := ⟨2, ![1, 2048]⟩
abbrev S2048x11264 : Shape := ⟨2, ![2048, 11264]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4096x3072 : Shape := ⟨3, ![2, 4096, 3072]⟩
abbrev S8192x2048 : Shape := ⟨2, ![8192, 2048]⟩
abbrev S8192x3072 : Shape := ⟨2, ![8192, 3072]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2048x11264, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x11264, .f32⟩
  | .hbm, ⟨20, _⟩ => ⟨S2x4096x3072, .f32⟩
  | .hbm, ⟨21, _⟩ => ⟨S2x4096x2048, .bf16⟩
  | .hbm, ⟨22, _⟩ => ⟨S8192x2048, .bf16⟩
  | .hbm, ⟨23, _⟩ => ⟨S2x4096x3072, .bf16⟩
  | .hbm, ⟨24, _⟩ => ⟨S8192x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Mix.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Mix

open Idealize.ShloMosaic Idealize.SL.Sem

/-- The shape relations of the precondition. -/
theorem pre_facts : Cert.Pre_finite.Facts :=
  ⟨by decide, by decide, by decide, by decide, by decide, by decide, by decide⟩

/-- The named constants stand for the powers of the decay rates. -/
theorem preserves : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

end Cert.Mix

end
-- ==== Proof.Mix.Spec.lean ====
module

public import Idealize.ShloMosaic.Lib.Pipeline.ValueKit

@[expose] public section

set_option maxRecDepth 16384
namespace Cert.Mix
open Idealize.ShloMosaic

/-! One row of the mixer, written over extended reals: the rotation of a head's row, the retention of one head, the group
normalisation and its gate, the pooled row of one window, the merge of the two branches and the normalisation of the sum. -/

/-- A row of one head turned by its position: `x` times the cosines plus `x` shifted by half a head times the signed sines. -/
noncomputable def rotI (x cs sn : Fin 128 → EReal) (d : Fin 128) : EReal :=
  x d * cs d + x ⟨(d.val + 128 - 64) % 128, Nat.mod_lt _ (by decide)⟩ * sn d

/-- The state of one head after a block: the old state times `γ` plus the block's keys (decayed) against its values. -/
noncomputable def stepState (γ : EReal) (kr kd : Fin 256 → Fin 128 → EReal) (v : Fin 256 → Fin 256 → EReal)
    (s : Fin 128 → Fin 256 → EReal) (d : Fin 128) (e : Fin 256) : EReal :=
  s d e * γ + ∑ r, (kr r d * kd r d) * v r e

/-- The retention of one row: the decayed scores against the block's values, and the decayed query against the state. -/
noncomputable def headRaw (qr : Fin 128 → EReal) (kr : Fin 256 → Fin 128 → EReal) (dc : Fin 256 → EReal)
    (v : Fin 256 → Fin 256 → EReal) (qd : Fin 128 → EReal) (s : Fin 128 → Fin 256 → EReal) (e : Fin 256) : EReal :=
  (∑ j, ((∑ d, qr d * kr j d) * dc j) * v j e) + ∑ d, (qr d * qd d) * s d e

/-- A head's row, normalised: less its mean, over the root of its variance plus a small constant. -/
noncomputable def groupNorm (x : Fin 256 → EReal) (e : Fin 256) : EReal :=
  (x e - Ideal.div (∑ i, x i) (Ideal.ofBits .f32 0x43800000#32)) *
    Ideal.rsqrt (Ideal.div (∑ j, (x j - Ideal.div (∑ i, x i) (Ideal.ofBits .f32 0x43800000#32)) *
      (x j - Ideal.div (∑ i, x i) (Ideal.ofBits .f32 0x43800000#32))) (Ideal.ofBits .f32 0x43800000#32)
      + Ideal.ofBits .f32 0x3727C5AC#32)

/-- The logistic function by way of the hyperbolic tangent. -/
noncomputable def tsig (x : EReal) : EReal :=
  Ideal.ofBits .f32 0x3F000000#32 * Ideal.tanh (Ideal.ofBits .f32 0x3F000000#32 * x) + Ideal.ofBits .f32 0x3F000000#32

/-- The gated, normalised head. -/
noncomputable def gated (g : EReal) (x : Fin 256 → EReal) (gain : EReal) (e : Fin 256) : EReal :=
  g * tsig g * (groupNorm x e * gain)

/-- The mean of the last `w` entries of a column up to row `r` of block `s`, less the entry itself: the entries of the block
    itself, those of the 16 rows before it, over the number of rows there are. -/
noncomputable def pooledK (w s : Nat) (p : Fin 256 → EReal) (halo : Fin 16 → EReal) (r : Fin 256) : EReal :=
  Ideal.div ((∑ j : Fin 256, (if j.val ≤ r.val ∧ r.val < j.val + w then (1 : EReal) else 0) * p j)
    + ∑ j : Fin 16, (if r.val + 16 < j.val + w then (1 : EReal) else 0) * (if s = 0 then 0 else halo j))
    (((min (256 * s + r.val + 1) w : Nat) : ℝ) : EReal) - p r

/-- One group's pooled row through its projection and scale. -/
noncomputable def poolMix (pooled : Fin 256 → EReal) (wg : Fin 256 → Fin 256 → EReal) (scale : EReal) (e : Fin 256) : EReal :=
  (∑ d, pooled d * wg d e) * scale

/-- The sum of the residual row and the merged branches. -/
noncomputable def h1Row (P : Fin 1024 → EReal) (O : Fin 2048 → EReal) (gp gr x : Fin 2048 → EReal)
    (wpp : Fin 1024 → Fin 2048 → EReal) (wret wout : Fin 2048 → Fin 2048 → EReal) (n : Fin 2048) : EReal :=
  x n + ∑ k, (tsig (gp k) * (∑ j, P j * wpp j k) + tsig (gr k) * (∑ j, O j * wret j k)) * wout k n

/-- The row over its root mean square, times a gain. -/
noncomputable def rmsRow (h : Fin 2048 → EReal) (nf : Fin 2048 → EReal) (n : Fin 2048) : EReal :=
  h n * Ideal.rsqrt (Ideal.div (∑ i, h i * h i) (Ideal.ofBits .f32 0x45000000#32) + Ideal.ofBits .f32 0x358637BD#32) * nf n
end Cert.Mix
-- ==== Proof.Mix.Point.lean ====
module

public import proofs.«01_k».proof.Proof.Gen.KernelIdeal.Frame
public import proofs.«01_k».proof.Proof.Mix.Spec
public import Idealize.ShloMosaic.Lib.Pipeline.ValueKit
public import Idealize.ShloMosaic.Lib.Pipeline.ReadBack
public import Idealize.ShloMosaic.Lib.ValueIdx

@[expose] public section

set_option maxRecDepth 16384
namespace Cert.KernelIdeal.Gen
open Idealize.ShloMosaic Idealize.ShloMosaic.TcCoe Idealize.ShloMosaic.Tactic Idealize.SL.Sem Idealize.ShloMosaic.Pipeline
open Cert.Mix

/-- The state's decay over one block of 256 frames, for each head. -/
noncomputable def gammaN : Fin 8 → EReal :=
  ![Named.named (F := Ideal) (φ := .f32) κ "gamma0" 0x399ACCA1#32, Named.named (F := Ideal) (φ := .f32) κ "gamma1" 0x3C9160A5#32,
    Named.named (F := Ideal) (φ := .f32) κ "gamma2" 0x3E097FCE#32, Named.named (F := Ideal) (φ := .f32) κ "gamma3" 0x3EBBFC5D#32,
    Named.named (F := Ideal) (φ := .f32) κ "gamma4" 0x3F1B322A#32, Named.named (F := Ideal) (φ := .f32) κ "gamma5" 0x3F475941#32,
    Named.named (F := Ideal) (φ := .f32) κ "gamma6" 0x3F61E98D#32, Named.named (F := Ideal) (φ := .f32) κ "gamma7" 0x3F707CE8#32]

/-- Row `r` of head `h`'s queries in the block of point `t`, rotated. -/
noncomputable def qRot (m : (ℓ : Loc nD τ sig) → Buf (Elt Ideal) ℓ) (c : Dev nD) (t : Fin cfg0.N) (h : Fin 8) (r : Fin 256) :
    Fin 128 → EReal :=
  rotI (fun d => iblk m c 0 t (ix2 r ⟨128 * h.val + d.val, by omega⟩)) (fun d => iblk m c 9 t (ix2 r d))
    (fun d => iblk m c 10 t (ix2 r d))

/-- Row `r` of head `h`'s keys in the block of point `t`, rotated and scaled. -/
noncomputable def kRot (m : (ℓ : Loc nD τ sig) → Buf (Elt Ideal) ℓ) (c : Dev nD) (t : Fin cfg0.N) (h : Fin 8) (r : Fin 256)
    (d : Fin 128) : EReal :=
  rotI (fun d => iblk m c 1 t (ix2 r ⟨128 * h.val + d.val, by omega⟩)) (fun d => iblk m c 9 t (ix2 r d))
    (fun d => iblk m c 10 t (ix2 r d)) d * Ideal.ofBits .f32 0x3DB504F3#32

/-- Head `h`'s state after the block of point `t`, from the state `S` before it. -/
noncomputable def stNext (m : (ℓ : Loc nD τ sig) → Buf (Elt Ideal) ℓ) (c : Dev nD) (t : Fin cfg0.N) (h : Fin 8)
    (S : Fin 128 → Fin 256 → EReal) (d : Fin 128) (e : Fin 256) : EReal :=
  stepState (gammaN h) (kRot m c t h) (fun r d => iblk m c 13 t (ix3 h r d))
    (fun r e => iblk m c 2 t (ix2 r ⟨256 * h.val + e.val, by omega⟩)) S d e

/-- The retention of head `h` at row `r` of the block of point `t`, from the state `S` before it. -/
noncomputable def retRow (m : (ℓ : Loc nD τ sig) → Buf (Elt Ideal) ℓ) (c : Dev nD) (t : Fin cfg0.N)
    (S : Fin 8 → Fin 128 → Fin 256 → EReal) (h : Fin 8) (r : Fin 256) : Fin 256 → EReal :=
  headRaw (qRot m c t h r) (kRot m c t h) (fun j => iblk m c 11 t (ix3 h r j))
    (fun j e => iblk m c 2 t (ix2 j ⟨256 * h.val + e.val, by omega⟩)) (fun d => iblk m c 12 t (ix3 h r d)) (S h)

/-- The gated, normalised heads of row `r`, column `256 h + e`. -/
noncomputable def oEl (m : (ℓ : Loc nD τ sig) → Buf (Elt Ideal) ℓ) (c : Dev nD) (t : Fin cfg0.N)
    (S : Fin 8 → Fin 128 → Fin 256 → EReal) (r : Fin 256) (h : Fin 8) (e : Fin 256) : EReal :=
  gated (iblk m c 3 t (ix2 r ⟨256 * h.val + e.val, by omega⟩)) (retRow m c t S h r)
    (iblk m c 14 t (ix2 0 ⟨256 * h.val + e.val, by omega⟩)) e

/-- The pooled and projected groups of row `r`, column `256 g + e`. -/
noncomputable def pEl (m : (ℓ : Loc nD τ sig) → Buf (Elt Ideal) ℓ) (c : Dev nD) (t : Fin cfg0.N)
    (r : Fin 256) (g : Fin 4) (e : Fin 256) : EReal :=
  poolMix (fun d => pooledK (2 ^ (g.val + 1)) (t.val % 16) (fun j => iblk m c 6 t (ix2 j ⟨256 * g.val + d.val, by omega⟩))
      (fun j => iblk m c 7 t (ix2 j ⟨256 * g.val + d.val, by omega⟩)) r)
    (fun d e => iblk m c 15 t (ix3 g d e)) (iblk m c 16 t (ix2 0 ⟨256 * g.val + e.val, by omega⟩)) e

/-- The sum row that the block of point `t` writes. -/
noncomputable def h1Blk (m : (ℓ : Loc nD τ sig) → Buf (Elt Ideal) ℓ) (c : Dev nD) (t : Fin cfg0.N)
    (S : Fin 8 → Fin 128 → Fin 256 → EReal) (r : Fin 256) : Fin 2048 → EReal :=
  h1Row (fun j => pEl m c t r ⟨j.val / 256, by omega⟩ ⟨j.val % 256, by omega⟩)
    (fun j => oEl m c t S r ⟨j.val / 256, by omega⟩ ⟨j.val % 256, by omega⟩)
    (fun k => iblk m c 4 t (ix2 r k)) (fun k => iblk m c 5 t (ix2 r k)) (fun k => iblk m c 8 t (ix2 r k))
    (fun j k => iblk m c 17 t (ix2 j k)) (fun j k => iblk m c 18 t (ix2 j k)) (fun j k => iblk m c 19 t (ix2 j k))
end Cert.KernelIdeal.Gen
-- ==== Proof.Mix.Bits.lean ====
module

public import Idealize.ShloMosaic.Lib.Pipeline.ValueKit

@[expose] public section

set_option maxRecDepth 16384
namespace Cert.Mix
open Idealize.ShloMosaic

/-! The words of the pooling's masks and counts, read as numbers. -/

theorem toInt_small (n : Nat) (h : n < 65536) : (BitVec.ofNat 32 n).toInt = (n : Int) := by
  rw [BitVec.toInt_eq_toNat_cond, BitVec.toNat_ofNat]; omega

theorem toInt_sub_small (a b : Nat) (ha : a < 65536) (hb : b < 65536) :
    (BitVec.ofNat 32 a - BitVec.ofNat 32 b).toInt = (a : Int) - b := by
  rw [BitVec.toInt_sub, toInt_small a ha, toInt_small b hb, Int.bmod_def]; omega

theorem bit_toInt (b : Bool) : (BitVec.setWidth 32 (BitVec.ofBool b)).toInt = if b then 1 else 0 := by
  cases b <;> rfl

theorem ofBool_and' : ∀ a b : Bool, BitVec.ofBool a &&& BitVec.ofBool b = BitVec.ofBool (a && b) := by decide

/-- The block's mask. -/
theorem mask_main (x r w : Nat) (hx : x < 256) (hr : r < 256) (hw : w < 256) :
    (FloatOps.sitofp FTy.f32 (BitVec.setWidth 32
      (IntOp.andi (IntOp.cmpi CmpIPredicate.sle (BitVec.ofNat 32 x) (BitVec.ofNat 32 r))
        (IntOp.cmpi CmpIPredicate.sgt (BitVec.ofNat 32 x) (IntOp.subi (BitVec.ofNat 32 r) (BitVec.ofNat 32 w))))) : Ideal .f32)
      = (if x ≤ r ∧ r < x + w then (1 : EReal) else 0) := by
  have h : (IntOp.andi (IntOp.cmpi CmpIPredicate.sle (BitVec.ofNat 32 x) (BitVec.ofNat 32 r))
        (IntOp.cmpi CmpIPredicate.sgt (BitVec.ofNat 32 x) (IntOp.subi (BitVec.ofNat 32 r) (BitVec.ofNat 32 w))))
        = BitVec.ofBool (decide (x ≤ r ∧ r < x + w)) := by
    unfold IntOp.andi IntOp.cmpi IntOp.subi
    dsimp only
    rw [BitVec.sle_eq_decide, BitVec.slt_eq_decide, toInt_sub_small _ _ (by omega) (by omega), toInt_small _ (by omega),
      toInt_small _ (by omega), ofBool_and']
    congr 1
    rw [← Bool.decide_and]
    apply decide_eq_decide.2
    omega
  rw [h]
  show (((BitVec.setWidth 32 (BitVec.ofBool _)).toInt : ℝ) : EReal) = _
  rw [bit_toInt]
  by_cases hc : x ≤ r ∧ r < x + w <;> simp [hc]

/-- The mask of the rows before the block. -/
theorem mask_halo (x r w : Nat) (hx : x < 16) (hr : r < 256) (hw : w < 256) :
    (FloatOps.sitofp FTy.f32 (BitVec.setWidth 32
      (IntOp.cmpi CmpIPredicate.sgt (IntOp.subi (BitVec.ofNat 32 x) (BitVec.ofNat 32 16))
        (IntOp.subi (BitVec.ofNat 32 r) (BitVec.ofNat 32 w)))) : Ideal .f32)
      = (if r + 16 < x + w then (1 : EReal) else 0) := by
  have h : (IntOp.cmpi CmpIPredicate.sgt (IntOp.subi (BitVec.ofNat 32 x) (BitVec.ofNat 32 16))
        (IntOp.subi (BitVec.ofNat 32 r) (BitVec.ofNat 32 w)))
        = BitVec.ofBool (decide (r + 16 < x + w)) := by
    unfold IntOp.cmpi IntOp.subi
    dsimp only
    rw [BitVec.slt_eq_decide, toInt_sub_small _ _ (by omega) (by omega), toInt_sub_small _ _ (by omega) (by omega)]
    congr 1
    apply decide_eq_decide.2
    omega
  rw [h]
  show (((BitVec.setWidth 32 (BitVec.ofBool _)).toInt : ℝ) : EReal) = _
  rw [bit_toInt]
  by_cases hc : r + 16 < x + w <;> simp [hc]

/-- The number of rows in the window. -/
theorem count_word (s r w : Nat) (hs : s < 16) (hr : r < 256) (hw : w < 256) :
    (FloatOps.sitofp FTy.f32 (IntOp.minsi (IntOp.addi (IntOp.addi (Scalar.muli (BitVec.ofNat 32 s) 256#32) (BitVec.ofNat 32 r)) 1#32)
      (BitVec.ofNat 32 w)) : Ideal .f32) = (((min (256 * s + r + 1) w : Nat) : ℝ) : EReal) := by
  have h : IntOp.minsi (IntOp.addi (IntOp.addi (Scalar.muli (BitVec.ofNat 32 s) 256#32) (BitVec.ofNat 32 r)) 1#32)
      (BitVec.ofNat 32 w) = BitVec.ofNat 32 (min (256 * s + r + 1) w) := by
    have e : (IntOp.addi (IntOp.addi (Scalar.muli (BitVec.ofNat 32 s) 256#32) (BitVec.ofNat 32 r)) 1#32)
        = BitVec.ofNat 32 (256 * s + r + 1) := by
      unfold IntOp.addi Scalar.muli IntOp.muli
      apply BitVec.eq_of_toNat_eq
      simp [BitVec.toNat_add, BitVec.toNat_mul, BitVec.toNat_ofNat]
      omega
    rw [e]
    unfold IntOp.minsi
    rw [BitVec.slt_eq_decide, toInt_small _ (by omega), toInt_small _ (by omega)]
    by_cases hc : 256 * s + r + 1 < w
    · rw [if_pos (by simpa using (by exact_mod_cast hc)), min_eq_left hc.le]
    · rw [if_neg (by simpa using (by exact_mod_cast Nat.le_of_not_lt hc)), min_eq_right (Nat.le_of_not_lt hc)]
  rw [h]
  show (((BitVec.ofNat 32 _).toInt : ℝ) : EReal) = _
  rw [toInt_small _ (by omega)]
  norm_num

/-- Whether the block is the first. -/
theorem first_word (s : Nat) (hs : s < 16) {α : Type} (a b : α) :
    Scalar.select (Scalar.cmpi CmpIPredicate.eq (Scalar.muli (BitVec.ofNat 32 s) 256#32) 0#32) a b
      = if s = 0 then a else b := by
  interval_cases s <;> rfl
end Cert.Mix
-- ==== Proof.Mix.Retention.lean ====
module

public import Idealize.ShloMosaic.Lib.Pipeline.ValueKit

@[expose] public section

/-! # Retention over the reals

Every frame `j` whose chunk of 64 frames is not later than frame `i`'s contributes to frame `i`, decayed by
`g ^ |i - j|`. Summed in blocks of 256 frames, what lies before the block is a state that decays by `g ^ 256` from one
block to the next. -/

namespace Cert.Mix

open Finset

/-- The weight of frame `j` at frame `i`: `g ^ |i - j|`, and 0 from a later chunk of 64 frames. -/
noncomputable def dec (g : ℝ) (i j : ℕ) : ℝ := if j / 64 ≤ i / 64 then g ^ ((i - j) + (j - i)) else 0

/-- The state before block `s`: everything earlier, decayed to the block's last earlier frame. -/
noncomputable def st (g : ℝ) (k v : ℕ → ℝ) (s : ℕ) : ℝ :=
  ∑ j ∈ range (256 * s), g ^ (256 * s - 1 - j) * k j * v j

theorem st_zero (g : ℝ) (k v : ℕ → ℝ) : st g k v 0 = 0 := by simp [st]

theorem st_succ (g : ℝ) (k v : ℕ → ℝ) (s : ℕ) :
    st g k v (s + 1) = st g k v s * g ^ 256
      + ∑ r ∈ range 256, (k (256 * s + r) * g ^ (255 - r)) * v (256 * s + r) := by
  unfold st
  rw [show 256 * (s + 1) = 256 * s + 256 by ring, sum_range_add, sum_mul]
  congr 1
  · refine sum_congr rfl fun j hj => ?_
    have hj := mem_range.mp hj
    rw [show 256 * s + 256 - 1 - j = (256 * s - 1 - j) + 256 by omega, pow_add]
    ring
  · refine sum_congr rfl fun r hr => ?_
    have hr := mem_range.mp hr
    rw [show 256 * s + 256 - 1 - (256 * s + r) = 255 - r by omega]
    ring

/-- A frame's whole sum, split into its own block of 256 and the state before it. -/
theorem ret_split {D : Type} [Fintype D] (g : ℝ) (q : D → ℝ) (k : ℕ → D → ℝ) (v : ℕ → ℝ) (s r : ℕ)
    (n : ℕ) (hs : 256 * s + 256 ≤ n) (hr : r < 256) :
    ∑ j ∈ range n, (∑ d, q d * k j d) * dec g (256 * s + r) j * v j
      = ∑ j ∈ range 256, ((∑ d, q d * k (256 * s + j) d) * dec g r j) * v (256 * s + j)
        + ∑ d, (q d * g ^ (r + 1)) * st g (fun j => k j d) v s := by
  obtain ⟨l, rfl⟩ : ∃ l, n = 256 * s + (256 + l) := ⟨n - (256 * s + 256), by omega⟩
  rw [sum_range_add, sum_range_add]
  have h3 : ∑ x ∈ range l, (∑ d, q d * k (256 * s + (256 + x)) d)
      * dec g (256 * s + r) (256 * s + (256 + x)) * v (256 * s + (256 + x)) = 0 := by
    refine sum_eq_zero fun x _ => ?_
    have : ¬ (256 * s + (256 + x)) / 64 ≤ (256 * s + r) / 64 := by omega
    simp [dec, this]
  rw [h3, add_zero, add_comm]
  congr 1
  · refine sum_congr rfl fun j hj => ?_
    have hj := mem_range.mp hj
    have e : dec g (256 * s + r) (256 * s + j) = dec g r j := by
      unfold dec
      have h1 : ((256 * s + j) / 64 ≤ (256 * s + r) / 64) ↔ (j / 64 ≤ r / 64) := by omega
      simp only [h1]
      rw [show (256 * s + r - (256 * s + j)) + (256 * s + j - (256 * s + r)) = (r - j) + (j - r) by omega]
    rw [e]
  · unfold st
    simp only [mul_sum, sum_mul]
    rw [sum_comm]
    refine sum_congr rfl fun d _ => sum_congr rfl fun j hj => ?_
    have hj := mem_range.mp hj
    have h1 : j / 64 ≤ (256 * s + r) / 64 := by omega
    unfold dec
    rw [if_pos h1, show (256 * s + r - j) + (j - (256 * s + r)) = (r + 1) + (256 * s - 1 - j) by omega, pow_add]
    ring

/-- The difference of two prefix sums is the window's sum, and a window split at a block's start is its part in the
    block and its part in the 16 frames before. -/
theorem window_split (p : ℕ → ℝ) (w s r : ℕ) (hw : 1 ≤ w) (hw' : w ≤ 16) (hr : r < 256) :
    (∑ j ∈ range (256 * s + r + 1), p j) - ∑ j ∈ range (256 * s + r + 1 - w), p j
      = ∑ j ∈ range 256, (if j ≤ r ∧ r < j + w then 1 else 0) * p (256 * s + j)
        + ∑ j ∈ range 16, (if r + 16 < j + w then 1 else 0) * (if s = 0 then 0 else p (256 * s + j - 16)) := by
  have key : ∀ n a b : ℕ, a ≤ b → b ≤ n → (∑ j ∈ range n, (if a ≤ j ∧ j < b then p j else 0))
      = (∑ j ∈ range b, p j) - ∑ j ∈ range a, p j := by
    intro n a b hab hbn
    rw [← sum_filter, eq_sub_iff_add_eq, ← sum_range_add_sum_Ico p hab, add_comm]
    congr 1
    refine sum_congr ?_ fun _ _ => rfl
    ext j; simp only [mem_filter, mem_range, mem_Ico]; omega
  rw [← key (256 * s + 256) _ _ (Nat.sub_le _ _) (by omega), sum_range_add, add_comm]
  congr 1
  · refine sum_congr rfl fun j hj => ?_
    by_cases h : j ≤ r ∧ r < j + w
    · rw [if_pos h, if_pos (by omega), one_mul]
    · rw [if_neg h, if_neg (by omega), zero_mul]
  · rcases Nat.eq_zero_or_pos s with rfl | hs
    · simp
    · rw [show 256 * s = (256 * s - 16) + 16 by omega, sum_range_add]
      have h0 : ∑ x ∈ range (256 * s - 16), (if 256 * s - 16 + 16 + r + 1 - w ≤ x ∧ x < 256 * s - 16 + 16 + r + 1
          then p x else 0) = 0 := by
        refine sum_eq_zero fun x hx => ?_
        have hx := mem_range.mp hx
        rw [if_neg (by omega)]
      rw [h0, zero_add]
      refine sum_congr rfl fun j hj => ?_
      have hj := mem_range.mp hj
      rw [if_neg (by omega : ¬ s = 0)]
      by_cases h : r + 16 < j + w
      · rw [if_pos h, if_pos (by omega), one_mul]
        congr 1; omega
      · rw [if_neg h, if_neg (by omega), zero_mul]

end Cert.Mix
-- ==== Proof.Mix.Real.lean ====
module

public import proofs.«01_k».proof.Proof.Mix.Bits
public import proofs.«01_k».proof.Proof.Mix.Retention

@[expose] public section

set_option maxRecDepth 16384
noncomputable section
namespace Cert.Mix
open Idealize.ShloMosaic Finset

/-! The tables of the mixer over the reals: decay rates, rotations, and the layer's rows as real numbers. -/

/-- The decay rate of head `h`. -/
def gam (h : ℕ) : ℝ := 1 - (1 / 2) ^ (5 + h)

theorem gam_pos (h : ℕ) : 0 < gam h := by
  unfold gam
  have : ((1 : ℝ) / 2) ^ (5 + h) ≤ (1 / 2) ^ 1 := pow_le_pow_of_le_one (by norm_num) (by norm_num) (by omega)
  norm_num at this ⊢
  linarith

theorem bits_one : Ideal.ofBits .f32 0x3F800000#32 = ((1 : ℝ) : EReal) := by
  simp [Ideal.ofBits_one_f32]

theorem bits_two : Ideal.ofBits .f32 0x40000000#32 = ((2 : ℝ) : EReal) := by
  simp [Ideal.ofBits, Ideal.ieee, -EReal.coe_mul]; norm_num

theorem bits_neg_five : Ideal.ofBits .f32 0xC0A00000#32 = ((-5 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_255 : Ideal.ofBits .f32 0x437F0000#32 = ((255 : ℝ) : EReal) := by
  simp [Ideal.ofBits, Ideal.ieee, -EReal.coe_mul]; norm_num

theorem bits_10000 : Ideal.ofBits .f32 0x461C4000#32 = ((10000 : ℝ) : EReal) := by
  simp [Ideal.ofBits, Ideal.ieee, -EReal.coe_mul]; norm_num

/-- The scale of the keys. -/
def kScale : ℝ := (Ideal.ofBits .f32 0x3DB504F3#32).toReal

theorem bits_kScale : Ideal.ofBits .f32 0x3DB504F3#32 = (kScale : EReal) := by
  have : ∃ x : ℝ, Ideal.ofBits .f32 0x3DB504F3#32 = (x : EReal) := by
    simp only [Ideal.ofBits, Ideal.ieee]
    norm_num
    exact ⟨_, rfl⟩
  obtain ⟨x, hx⟩ := this
  rw [kScale, hx, EReal.toReal_coe]

theorem sitofp_small (n : ℕ) (h : n < 65536) :
    (FloatOps.sitofp FTy.f32 (BitVec.ofNat 32 n) : Ideal .f32) = ((n : ℝ) : EReal) := by
  show (((BitVec.ofNat 32 n).toInt : ℝ) : EReal) = _
  rw [toInt_small n h]; rfl

/-- The logarithm of a head's rate, as the programs compute it. -/
theorem log_gam (h : ℕ) (hh : h < 8) :
    Ideal.log (1 - Ideal.pow (Ideal.ofBits .f32 0x40000000#32)
      (Ideal.ofBits .f32 0xC0A00000#32 - FloatOps.sitofp (F := Ideal) FTy.f32 (BitVec.ofNat 32 h))) = (Real.log (gam h) : EReal) := by
  rw [bits_two, bits_neg_five, sitofp_small h (by omega), ← EReal.coe_one, ← EReal.coe_sub, Ideal.pow_coe_coe, ← EReal.coe_sub, Ideal.log_coe]
  have e : (1 : ℝ) - Real.rpow 2 (-5 - (h : ℝ)) = gam h := by
    unfold gam
    congr 1
    show (2 : ℝ) ^ (-5 - (h : ℝ)) = _
    rw [show (-5 - (h : ℝ)) = -((5 + h : ℕ) : ℝ) by push_cast; ring, Real.rpow_neg (by norm_num), Real.rpow_natCast]
    simp
  rw [e, if_neg (not_le.2 (gam_pos h))]

/-- An exponential of a multiple of it is a power of the rate. -/
theorem exp_log_gam (h n : ℕ) : Ideal.exp (((n : ℝ) : EReal) * (Real.log (gam h) : EReal)) = ((gam h ^ n : ℝ) : EReal) := by
  rw [← EReal.coe_mul, Ideal.exp_coe, ← Real.log_pow, Real.exp_log (pow_pos (gam_pos h) n)]

/-- The distance of two frames. -/
theorem dist_word (r j : ℕ) (hr : r < 65536) (hj : j < 65536) :
    (FloatOps.sitofp FTy.f32 (IntOp.absi (IntOp.subi (BitVec.ofNat 32 r) (BitVec.ofNat 32 j))) : Ideal .f32)
      = (((r - j + (j - r) : ℕ) : ℝ) : EReal) := by
  have h : IntOp.absi (IntOp.subi (BitVec.ofNat 32 r) (BitVec.ofNat 32 j)) = BitVec.ofNat 32 (r - j + (j - r)) := by
    unfold IntOp.absi IntOp.subi
    apply BitVec.eq_of_toInt_eq
    change (BitVec.abs (BitVec.ofNat 32 r - BitVec.ofNat 32 j)).toInt = _
    rw [toInt_small _ (by omega), BitVec.toInt_abs_eq_natAbs_of_ne_intMin, toInt_sub_small r j hr hj]
    · omega
    · intro hc
      have := congrArg BitVec.toInt hc
      rw [toInt_sub_small r j hr hj] at this
      have e : (BitVec.intMin 32).toInt = -2147483648 := by decide
      omega
  rw [h, sitofp_small _ (by omega)]

/-- The angle of position `n` in pair `d`. -/
def angR (n d : ℕ) : ℝ := n * (10000 : ℝ) ^ (-(d : ℝ) / 64)

theorem ang_word (n d : ℕ) (hn : n < 65536) (hd : d < 65536) :
    (FloatOps.sitofp FTy.f32 (BitVec.ofNat 32 n) : Ideal .f32) * Ideal.pow (Ideal.ofBits .f32 0x461C4000#32)
      (Ideal.div (-(FloatOps.sitofp FTy.f32 (BitVec.ofNat 32 d) : Ideal .f32)) (Ideal.ofBits .f32 0x42800000#32))
      = (angR n d : EReal) := by
  rw [sitofp_small n hn, sitofp_small d hd, bits_10000, bits_64]
  rw [show -(((d : ℝ)) : EReal) = ((-(d : ℝ) : ℝ) : EReal) from rfl, Ideal.div_coe (by norm_num), ← EReal.coe_mul, Ideal.pow_coe_coe, ← EReal.coe_mul,
    mul_one_div]
  rfl

/-- A head's row turned by its position. -/
def rotR (x : ℕ → ℝ) (n d : ℕ) : ℝ :=
  if d < 64 then x d * Real.cos (angR n d) - x (d + 64) * Real.sin (angR n d)
  else x d * Real.cos (angR n (d - 64)) + x (d - 64) * Real.sin (angR n (d - 64))

/-- Whether a frame's chunk is seen, as the words compare. -/
theorem seen_word (r j : ℕ) (hr : r < 65536) (hj : j < 65536) :
    IntOp.cmpi CmpIPredicate.sle (BitVec.ofNat 32 (j / 64)) (BitVec.ofNat 32 (r / 64))
      = BitVec.ofBool (decide (j / 64 ≤ r / 64)) := by
  unfold IntOp.cmpi
  dsimp only
  rw [BitVec.sle_eq_decide, toInt_small _ (by omega), toInt_small _ (by omega)]
  congr 1
  apply decide_eq_decide.2
  omega

/-- A finite sum of reals among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

/-- Queries, keys and values of batch `b`, head `h`, position `n`. -/
def qR (Z : ℕ → ℕ → ℝ) (b h n : ℕ) (d : Fin 128) : ℝ := rotR (fun d => Z (4096 * b + n) (1024 + 128 * h + d)) n d
def kR (Z : ℕ → ℕ → ℝ) (b h n : ℕ) (d : Fin 128) : ℝ := rotR (fun d => Z (4096 * b + n) (2048 + 128 * h + d)) n d * kScale
def vR (V : ℕ → ℕ → ℝ) (b h n e : ℕ) : ℝ := V (4096 * b + n) (256 * h + e)

/-- The retention of a frame: every frame of its chunk or an earlier one, decayed by the distance. -/
def retR (Z V : ℕ → ℕ → ℝ) (b h n e : ℕ) : ℝ :=
  ∑ j ∈ range 4096, (∑ d, qR Z b h n d * kR Z b h j d) * dec (gam h) n j * vR V b h j e

/-- The mean of the last `w` frames of a column less the frame itself. -/
def poolR (Z : ℕ → ℕ → ℝ) (b w n c : ℕ) : ℝ :=
  (∑ j ∈ range (n + 1), Z (4096 * b + j) c - ∑ j ∈ range (n + 1 - w), Z (4096 * b + j) c) / ((min (n + 1) w : ℕ) : ℝ)
    - Z (4096 * b + n) c

end Cert.Mix
end
-- ==== Proof.Mix.Tables.lean ====
module
public import proofs.«01_k».proof.Proof.Mix.Point
public import proofs.«01_k».proof.Proof.Mix.Real
public import Idealize.ShloMosaic.Lib.StableHlo.RunRead
@[expose] public section
set_option maxRecDepth 16384
namespace Cert.KernelIdeal.Gen
open Idealize.ShloMosaic Idealize.ShloMosaic.TcCoe Idealize.ShloMosaic.Tactic Idealize.SL.Sem Idealize.ShloMosaic.Pipeline
open Cert.Mix

/-! The tables the host prepares, read at an element. -/

variable (m : (ℓ : Loc nD τ sig) → Buf (Elt Ideal) ℓ) (c : Dev nD)

/-- The quotient of a row of words by 64, rounded down. -/
noncomputable def floorRow (a : IVec S1x256 32) : IVec S1x256 32 :=
  select (andi (cmpi .ne (signi a) (broadcastInDim S1x256 ![] bcast_S_S1x256 (signi (constantI S_ 32 64#32))))
      (cmpi .ne (Host.remsi a (broadcastInDim S1x256 ![] bcast_S_S1x256 (constantI S_ 32 64#32)))
        (broadcastInDim S1x256 ![] bcast_S_S1x256 (constantI S_ 32 0#32))))
    (subi (Host.divsi a (broadcastInDim S1x256 ![] bcast_S_S1x256 (constantI S_ 32 64#32)))
      (broadcastInDim S1x256 ![] bcast_S_S1x256 (constantI S_ 32 1#32)))
    (Host.divsi a (broadcastInDim S1x256 ![] bcast_S_S1x256 (constantI S_ 32 64#32)))

/-- The quotient of a column of words by 64, rounded down. -/
noncomputable def floorCol (a : IVec S256x1 32) : IVec S256x1 32 :=
  select (andi (cmpi .ne (signi a) (broadcastInDim S256x1 ![] bcast_S_S256x1 (signi (constantI S_ 32 64#32))))
      (cmpi .ne (Host.remsi a (broadcastInDim S256x1 ![] bcast_S_S256x1 (constantI S_ 32 64#32)))
        (broadcastInDim S256x1 ![] bcast_S_S256x1 (constantI S_ 32 0#32))))
    (subi (Host.divsi a (broadcastInDim S256x1 ![] bcast_S_S256x1 (constantI S_ 32 64#32)))
      (broadcastInDim S256x1 ![] bcast_S_S256x1 (constantI S_ 32 1#32)))
    (Host.divsi a (broadcastInDim S256x1 ![] bcast_S_S256x1 (constantI S_ 32 64#32)))

theorem decay_read : V m c main_v50 =
    select (broadcastInDim S8x256x256 ![0, 1, 2] bcast_S1x256x256_S8x256x256_0_1_2
      (broadcastInDim S1x256x256 ![1, 2] bcast_S256x256_S1x256x256_1_2
        (cmpi .sle (broadcastInDim S256x256 ![0, 1] bcast_S1x256_S256x256_0_1
            (floorRow (broadcastInDim S1x256 ![1] bcast_S256_S1x256_1 (iotaInDim S256 32 0))))
          (broadcastInDim S256x256 ![0, 1] bcast_S256x1_S256x256_0_1
            (floorCol (broadcastInDim S256x1 ![0] bcast_S256_S256x1_0 (iotaInDim S256 32 0)))))))
    (Host.exp
            (mulf
              (broadcastInDim S8x256x256 ![0, 1, 2] bcast_S1x256x256_S8x256x256_0_1_2
                (broadcastInDim S1x256x256 ![1, 2] bcast_S256x256_S1x256x256_1_2
                  (sitofp FTy.f32
                    (absi
                      (subi
                        (broadcastInDim S256x256 ![0, 1] bcast_S256x1_S256x256_0_1
                          (broadcastInDim S256x1 ![0] bcast_S256_S256x1_0 (iotaInDim S256 32 0)))
                        (broadcastInDim S256x256 ![0, 1] bcast_S1x256_S256x256_0_1
                          (broadcastInDim S1x256 ![1] bcast_S256_S1x256_1 (iotaInDim S256 32 0))))))))
              (broadcastInDim S8x256x256 ![0, 1, 2] bcast_S8x1x1_S8x256x256_0_1_2
                (broadcastInDim S8x1x1 ![0] bcast_S8_S8x1x1_0
                  (Host.log
                    (subf (broadcastInDim S8 ![] bcast_S_S8 (constant S_ FTy.f32 1065353216#32))
                      (Host.powf (broadcastInDim S8 ![] bcast_S_S8 (constant S_ FTy.f32 1073741824#32))
                        (subf (broadcastInDim S8 ![] bcast_S_S8 (constant S_ FTy.f32 3231711232#32))
                          (sitofp (F := Ideal) FTy.f32 (iotaInDim S8 32 0))))))))))
    (broadcastInDim S8x256x256 ![] bcast_S_S8x256x256 (constant S_ FTy.f32 0#32)) := by
  unfold V
  simp only [hostOps0, hostOps0_1, hostOps0_2, hostOps0_3, hostOps0_4, hostOps0_5, hostOps0_6, List.flatten_cons, List.flatten_nil, List.append_nil, List.cons_append, List.nil_append]
  after_reads_simp
  rfl

/-- A small word over 64, rounded down. -/
def floorWord (j : BitVec 32) : BitVec 32 :=
  Scalar.select
          (IntOp.andi
            (IntOp.cmpi CmpIPredicate.ne
              (if j = 0 then 0 else if j.msb = true then -1 else (1 : BitVec 32))
              (if 64#32 = 0 then 0 else if (64#32).msb = true then -1 else (1 : BitVec 32)))
            (IntOp.cmpi CmpIPredicate.ne (IntOp.remsi ArithUnit.host j 64#32) 0#32))
          (IntOp.subi (IntOp.divsi ArithUnit.host j 64#32) 1#32)
          (IntOp.divsi ArithUnit.host j 64#32)

theorem floorWord_eq : ∀ j : Fin 256, floorWord (BitVec.ofNat 32 j.val) = BitVec.ofNat 32 (j.val / 64) := by
  decide +kernel

theorem decay_at (h : Fin 8) (r j : Fin 256) : V m c main_v50 (ix3 h r j) = (((dec (gam h.val) r.val j.val) : ℝ) : EReal) := by
  rw [decay_read]
  unfold floorRow floorCol
  pointwise
  change Scalar.select (IntOp.cmpi CmpIPredicate.sle (floorWord (BitVec.ofNat 32 j.val)) (floorWord (BitVec.ofNat 32 r.val))) _ _ = _
  rw [floorWord_eq, floorWord_eq, seen_word _ _ (by omega) (by omega), dist_word _ _ (by omega) (by omega), log_gam _ h.isLt, exp_log_gam]
  unfold dec Scalar.select
  by_cases hc : j.val / 64 ≤ r.val / 64 <;> simp [hc]

theorem qdecay_at (h : Fin 8) (r : Fin 256) (d : Fin 128) : V m c main_v72 (ix3 h r d) = (((gam h.val ^ (r.val + 1)) : ℝ) : EReal) := by
  unfold V
  simp only [hostOps0, hostOps0_1, hostOps0_2, hostOps0_3, hostOps0_4, hostOps0_5, hostOps0_6, List.flatten_cons, List.flatten_nil, List.append_nil, List.cons_append, List.nil_append]
  after_reads_simp
  simp only [id_eq]
  pointwise
  rw [log_gam _ h.isLt, sitofp_small _ (by omega), ← EReal.coe_one, ← EReal.coe_add, ← exp_log_gam]
  push_cast
  rfl

theorem kdecay_at (h : Fin 8) (r : Fin 256) (d : Fin 128) : V m c main_v74 (ix3 h r d) = (((gam h.val ^ (255 - r.val)) : ℝ) : EReal) := by
  unfold V
  simp only [hostOps0, hostOps0_1, hostOps0_2, hostOps0_3, hostOps0_4, hostOps0_5, hostOps0_6, List.flatten_cons, List.flatten_nil, List.append_nil, List.cons_append, List.nil_append]
  after_reads_simp
  simp only [id_eq]
  pointwise
  rw [log_gam _ h.isLt, sitofp_small _ (by omega), bits_255, ← EReal.coe_sub, ← exp_log_gam, Nat.cast_sub (by omega)]
  rfl

theorem cos_at (n : Fin 4096) (d : Fin 128) : V m c main_v15 (ix2 n d) = ((Real.cos (angR n.val (d.val % 64)) : ℝ) : EReal) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split
  · rw [ang_word _ _ (by omega) (by omega), Ideal.cos_coe, Nat.mod_eq_of_lt (by assumption)]
  · rw [ang_word _ _ (by omega) (by omega), Ideal.cos_coe, show d.val - 64 = d.val % 64 by omega]

theorem sin_at (n : Fin 4096) (d : Fin 128) : V m c main_v19 (ix2 n d) =
   (((if d.val < 64 then - Real.sin (angR n.val d.val) else Real.sin (angR n.val (d.val - 64))) : ℝ) : EReal) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split
  · rw [ang_word _ _ (by omega) (by omega), Ideal.sin_coe]; rfl
  · rw [ang_word _ _ (by omega) (by omega), Ideal.sin_coe]
end Cert.KernelIdeal.Gen
-- ==== Proof.Mix.Blocks.lean ====
module

public import proofs.«01_k».proof.Proof.Mix.Tables

@[expose] public section

set_option maxRecDepth 16384
namespace Cert.KernelIdeal.Gen
open Idealize.ShloMosaic Idealize.ShloMosaic.TcCoe Idealize.ShloMosaic.Tactic Idealize.SL.Sem Idealize.ShloMosaic.Pipeline
open Cert.Mix

/-! The blocks of each window, read as elements of the arrays they are cut from. -/

variable (m : (ℓ : Loc nD τ sig) → Buf (Elt Ideal) ℓ) (c : Dev nD) (t : Fin cfg0.N)

theorem lt32 (t : Fin cfg0.N) : t.val < 32 := t.isLt

theorem idx0 : ∀ t : Fin cfg0.N, win0_0.index t 0 = t.val ∧ win0_0.index t 1 = 1 := by decide +kernel
theorem blk0 (r : Fin 256) (d : Fin 1024) : iblk m c 0 t (ix2 r d)
    = m ((c : Thread nD τ).loc main_arg0) (ix2 ⟨256 * t.val + r.val, by have := lt32 t; omega⟩ ⟨1024 + d.val, by omega⟩) := by
  blk_ext [iblk, V, (idx0 t).1, (idx0 t).2]

theorem idx1 : ∀ t : Fin cfg0.N, win0_1.index t 0 = t.val ∧ win0_1.index t 1 = 2 := by decide +kernel
theorem blk1 (r : Fin 256) (d : Fin 1024) : iblk m c 1 t (ix2 r d)
    = m ((c : Thread nD τ).loc main_arg0) (ix2 ⟨256 * t.val + r.val, by have := lt32 t; omega⟩ ⟨2048 + d.val, by omega⟩) := by
  blk_ext [iblk, V, (idx1 t).1, (idx1 t).2]

theorem idx2 : ∀ t : Fin cfg0.N, win0_2.index t 0 = t.val ∧ win0_2.index t 1 = 0 := by decide +kernel
theorem blk2 (r : Fin 256) (d : Fin 2048) : iblk m c 2 t (ix2 r d)
    = m ((c : Thread nD τ).loc main_arg1) (ix2 ⟨256 * t.val + r.val, by have := lt32 t; omega⟩ ⟨0 + d.val, by omega⟩) := by
  blk_ext [iblk, V, (idx2 t).1, (idx2 t).2]

theorem idx3 : ∀ t : Fin cfg0.N, win0_3.index t 0 = t.val ∧ win0_3.index t 1 = 1 := by decide +kernel
theorem blk3 (r : Fin 256) (d : Fin 2048) : iblk m c 3 t (ix2 r d)
    = m ((c : Thread nD τ).loc main_arg1) (ix2 ⟨256 * t.val + r.val, by have := lt32 t; omega⟩ ⟨2048 + d.val, by omega⟩) := by
  blk_ext [iblk, V, (idx3 t).1, (idx3 t).2]

theorem idx4 : ∀ t : Fin cfg0.N, win0_4.index t 0 = t.val ∧ win0_4.index t 1 = 2 := by decide +kernel
theorem blk4 (r : Fin 256) (d : Fin 2048) : iblk m c 4 t (ix2 r d)
    = m ((c : Thread nD τ).loc main_arg1) (ix2 ⟨256 * t.val + r.val, by have := lt32 t; omega⟩ ⟨4096 + d.val, by omega⟩) := by
  blk_ext [iblk, V, (idx4 t).1, (idx4 t).2]

theorem idx5 : ∀ t : Fin cfg0.N, win0_5.index t 0 = t.val ∧ win0_5.index t 1 = 3 := by decide +kernel
theorem blk5 (r : Fin 256) (d : Fin 2048) : iblk m c 5 t (ix2 r d)
    = m ((c : Thread nD τ).loc main_arg1) (ix2 ⟨256 * t.val + r.val, by have := lt32 t; omega⟩ ⟨6144 + d.val, by omega⟩) := by
  blk_ext [iblk, V, (idx5 t).1, (idx5 t).2]

theorem idx6 : ∀ t : Fin cfg0.N, win0_6.index t 0 = t.val ∧ win0_6.index t 1 = 0 := by decide +kernel
theorem blk6 (r : Fin 256) (d : Fin 1024) : iblk m c 6 t (ix2 r d)
    = m ((c : Thread nD τ).loc main_arg0) (ix2 ⟨256 * t.val + r.val, by have := lt32 t; omega⟩ ⟨0 + d.val, by omega⟩) := by
  blk_ext [iblk, V, (idx6 t).1, (idx6 t).2]

theorem idx8 : ∀ t : Fin cfg0.N, win0_8.index t 0 = t.val ∧ win0_8.index t 1 = 0 := by decide +kernel
theorem blk8 (r : Fin 256) (d : Fin 2048) : iblk m c 8 t (ix2 r d)
    = m ((c : Thread nD τ).loc main_arg2) (ix2 ⟨256 * t.val + r.val, by have := lt32 t; omega⟩ ⟨0 + d.val, by omega⟩) := by
  blk_ext [iblk, V, (idx8 t).1, (idx8 t).2]

theorem idx7 : ∀ t : Fin cfg0.N, win0_7.index t 0 = 16 * t.val - 1 ∧ win0_7.index t 1 = 0 := by decide +kernel
theorem blk7 (r : Fin 16) (d : Fin 1024) (h : 1 ≤ t.val) : iblk m c 7 t (ix2 r d)
    = m ((c : Thread nD τ).loc main_arg0) (ix2 ⟨256 * t.val - 16 + r.val, by have := lt32 t; omega⟩ ⟨d.val, by omega⟩) := by
  blk_ext [iblk, V, (idx7 t).1, (idx7 t).2]

theorem idx9 : ∀ t : Fin cfg0.N, win0_9.index t 0 = t.val % 16 ∧ win0_9.index t 1 = 0 := by decide +kernel
theorem blk9 (r : Fin 256) (d : Fin 128) : iblk m c 9 t (ix2 r d) = ((Real.cos (angR (256 * (t.val % 16) + r.val) (d.val % 64)) : ℝ) : EReal) := by
  refine Eq.trans ?_ (cos_at m c ⟨256 * (t.val % 16) + r.val, by omega⟩ d)
  blk_ext [iblk, (idx9 t).1, (idx9 t).2]

theorem idx10 : ∀ t : Fin cfg0.N, win0_10.index t 0 = t.val % 16 ∧ win0_10.index t 1 = 0 := by decide +kernel
theorem blk10 (r : Fin 256) (d : Fin 128) : iblk m c 10 t (ix2 r d) = ((if d.val < 64 then - Real.sin (angR (256 * (t.val % 16) + r.val) d.val) else Real.sin (angR (256 * (t.val % 16) + r.val) (d.val - 64)) : ℝ) : EReal) := by
  refine Eq.trans ?_ (sin_at m c ⟨256 * (t.val % 16) + r.val, by omega⟩ d)
  blk_ext [iblk, (idx10 t).1, (idx10 t).2]

theorem idx11 : ∀ t : Fin cfg0.N, win0_11.index t 0 = 0 ∧ win0_11.index t 1 = 0 ∧ win0_11.index t 2 = 0 := by decide +kernel
theorem blk11 (h : Fin 8) (r : Fin 256) (d : Fin 256) : iblk m c 11 t (ix3 h r d) = (((dec (gam h.val) r.val d.val) : ℝ) : EReal) := by
  refine Eq.trans ?_ (decay_at m c h r d)
  blk_ext [iblk, (idx11 t).1, (idx11 t).2.1, (idx11 t).2.2]

theorem idx12 : ∀ t : Fin cfg0.N, win0_12.index t 0 = 0 ∧ win0_12.index t 1 = 0 ∧ win0_12.index t 2 = 0 := by decide +kernel
theorem blk12 (h : Fin 8) (r : Fin 256) (d : Fin 128) : iblk m c 12 t (ix3 h r d) = (((gam h.val ^ (r.val + 1)) : ℝ) : EReal) := by
  refine Eq.trans ?_ (qdecay_at m c h r d)
  blk_ext [iblk, (idx12 t).1, (idx12 t).2.1, (idx12 t).2.2]

theorem idx13 : ∀ t : Fin cfg0.N, win0_13.index t 0 = 0 ∧ win0_13.index t 1 = 0 ∧ win0_13.index t 2 = 0 := by decide +kernel
theorem blk13 (h : Fin 8) (r : Fin 256) (d : Fin 128) : iblk m c 13 t (ix3 h r d) = (((gam h.val ^ (255 - r.val)) : ℝ) : EReal) := by
  refine Eq.trans ?_ (kdecay_at m c h r d)
  blk_ext [iblk, (idx13 t).1, (idx13 t).2.1, (idx13 t).2.2]

theorem idx14 : ∀ t : Fin cfg0.N, win0_14.index t 0 = 0 ∧ win0_14.index t 1 = 0 := by decide +kernel
theorem blk14 (r : Fin 1) (d : Fin 2048) : iblk m c 14 t (ix2 r d) = m ((c : Thread nD τ).loc main_arg3) (ix2 r d) := by
  blk_ext [iblk, V, (idx14 t).1, (idx14 t).2]

theorem idx16 : ∀ t : Fin cfg0.N, win0_16.index t 0 = 0 ∧ win0_16.index t 1 = 0 := by decide +kernel
theorem blk16 (r : Fin 1) (d : Fin 1024) : iblk m c 16 t (ix2 r d) = m ((c : Thread nD τ).loc main_arg5) (ix2 r d) := by
  blk_ext [iblk, V, (idx16 t).1, (idx16 t).2]

theorem idx17 : ∀ t : Fin cfg0.N, win0_17.index t 0 = 0 ∧ win0_17.index t 1 = 0 := by decide +kernel
theorem blk17 (r : Fin 1024) (d : Fin 2048) : iblk m c 17 t (ix2 r d) = m ((c : Thread nD τ).loc main_arg6) (ix2 r d) := by
  blk_ext [iblk, V, (idx17 t).1, (idx17 t).2]

theorem idx18 : ∀ t : Fin cfg0.N, win0_18.index t 0 = 0 ∧ win0_18.index t 1 = 0 := by decide +kernel
theorem blk18 (r : Fin 2048) (d : Fin 2048) : iblk m c 18 t (ix2 r d) = m ((c : Thread nD τ).loc main_arg7) (ix2 r d) := by
  blk_ext [iblk, V, (idx18 t).1, (idx18 t).2]

theorem idx19 : ∀ t : Fin cfg0.N, win0_19.index t 0 = 0 ∧ win0_19.index t 1 = 0 := by decide +kernel
theorem blk19 (r : Fin 2048) (d : Fin 2048) : iblk m c 19 t (ix2 r d) = m ((c : Thread nD τ).loc main_arg8) (ix2 r d) := by
  blk_ext [iblk, V, (idx19 t).1, (idx19 t).2]

theorem idx20 : ∀ t : Fin cfg0.N, win0_20.index t 0 = 0 ∧ win0_20.index t 1 = 0 := by decide +kernel
theorem blk20 (r : Fin 1) (d : Fin 2048) : iblk m c 20 t (ix2 r d) = m ((c : Thread nD τ).loc main_arg9) (ix2 r d) := by
  blk_ext [iblk, V, (idx20 t).1, (idx20 t).2]

theorem idx15 : ∀ t : Fin cfg0.N, win0_15.index t 0 = 0 ∧ win0_15.index t 1 = 0 ∧ win0_15.index t 2 = 0 := by decide +kernel
theorem group_at (h : Fin 4) (r d : Fin 256) : V m c main_v0 (ix3 h r d) = m ((c : Thread nD τ).loc main_arg4) (ix3 h r d) := by
  unfold V
  simp only [hostOps0, hostOps0_1, hostOps0_2, hostOps0_3, hostOps0_4, hostOps0_5, hostOps0_6, List.flatten_cons, List.flatten_nil, List.append_nil, List.cons_append, List.nil_append]
  after_reads_simp
  pointwise
theorem blk15 (h : Fin 4) (r d : Fin 256) : iblk m c 15 t (ix3 h r d) = m ((c : Thread nD τ).loc main_arg4) (ix3 h r d) := by
  refine Eq.trans ?_ (group_at m c h r d)
  blk_ext [iblk, (idx15 t).1, (idx15 t).2.1, (idx15 t).2.2]
end Cert.KernelIdeal.Gen
-- ==== Proof.Mix.State.lean ====
module

public import proofs.«01_k».proof.Proof.Mix.Point

@[expose] public section

set_option maxRecDepth 16384
namespace Cert.KernelIdeal.Gen
open Idealize.ShloMosaic Idealize.ShloMosaic.TcCoe Idealize.ShloMosaic.Tactic Idealize.SL.Sem Idealize.ShloMosaic.Pipeline
open Cert.Mix

/-! The retention state after a grid point, from the state before it. -/

/-- Under stores that hold an index, the stores before them do not matter there. -/
theorem canon_drop {S : Shape} {e : EltTy} : ∀ (L L' : List (View.Piece (Elt Ideal) S e)) (y : S.Idx) (_ : ∃ p ∈ L, y ∈ p.1.set),
    View.canon (L ++ L') y = View.canon L y
  | [], _, _, hy => by obtain ⟨p, hp, _⟩ := hy; simp at hp
  | p :: L, L', y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hyq⟩ := hy
      rcases List.mem_cons.mp hq with rfl | hq'
      · exact absurd hyq hm
      · exact ⟨q, hq', hyq⟩

set_option maxHeartbeats 4000000 in
theorem state_B (m : (ℓ : Loc nD τ sig) → Buf (Elt Ideal) ℓ) (c : Dev nD) (t : Fin cfg0.N) (h0 : ¬t.val % 16 = 0)
    (h : Fin 8) (d : Fin 128) (e : Fin 256) :
    (outsAt0 m c t.val t.isLt).2.2 (ix3 h d e) = stNext m c t h (fun d e => (outsAt0 m c (t.val - 1) (lt_of_le_of_lt (Nat.sub_le _ _) t.isLt)).2.2 (ix3 h d e)) d e := by
  rw [outsAt0_B m c t h0]
  dsimp only
  frame_open
  simp (disch := decide) only [↓ View.readCov_skip, ↓ View.readCov_cons_toLoadRect, ↓ View.readCov_fill]
  frame_out
  simp only [read_unread_whole]
  unfold stNext kRot
  generalize iblk m c 1 t = X1
  generalize iblk m c 2 t = X2
  generalize iblk m c 9 t = X9
  generalize iblk m c 10 t = X10
  generalize iblk m c 13 t = X13
  generalize (outsAt0 m c (t.val - 1) _).2.2 = S
  canon_tiles x hx
  all_goals unfold stepState rotI
  all_goals open_payloads
  all_goals pointwise
  all_goals
    have h0' : ((x 0 : Fin _) : ℕ) = 0 := by omega
    rw [h0'] at hx0
    obtain ⟨hv, hl⟩ := h
    change hv = _ at hx0
    subst hx0
    obtain rfl : d = x 1 := Fin.ext hx1
    obtain rfl : e = x 2 := Fin.ext hx2
    first | rfl | (simp only [Nat.mul_zero, Nat.zero_add]; rfl)

set_option maxHeartbeats 4000000 in
theorem state_A (m : (ℓ : Loc nD τ sig) → Buf (Elt Ideal) ℓ) (c : Dev nD) (t : Fin cfg0.N) (h0 : t.val % 16 = 0)
    (h : Fin 8) (d : Fin 128) (e : Fin 256) :
    (outsAt0 m c t.val t.isLt).2.2 (ix3 h d e) = stNext m c t h (fun _ _ => 0) d e := by
  rw [outsAt0_A m c t h0]
  dsimp only
  frame_open
  simp (disch := decide) only [↓ View.readCov_skip, ↓ View.readCov_cons_toLoadRect, ↓ View.readCov_fill]
  frame_out
  unfold stNext kRot
  generalize iblk m c 1 t = X1
  generalize iblk m c 2 t = X2
  generalize iblk m c 9 t = X9
  generalize iblk m c 10 t = X10
  generalize iblk m c 13 t = X13
  refine (canon_drop [_, _, _, _, _, _, _, _] [_] (ix3 h d e) (View.cover_of_tiledL _ ![1, 128, 256] rfl _)).trans ?_
  canon_tiles x hx
  all_goals unfold stepState rotI
  all_goals open_payloads
  all_goals pointwise
  all_goals
    have h0' : ((x 0 : Fin _) : ℕ) = 0 := by omega
    rw [h0'] at hx0
    obtain ⟨hv, hl⟩ := h
    change hv = _ at hx0
    subst hx0
    obtain rfl : d = x 1 := Fin.ext hx1
    obtain rfl : e = x 2 := Fin.ext hx2
    simp only [View.ld, broadcast]
    try simp only [Nat.mul_zero, Nat.zero_add]
  all_goals rfl

end Cert.KernelIdeal.Gen
-- ==== Proof.Mix.Finite.lean ====
module

public import proofs.«01_k».proof.Proof.Mix.Blocks
public import proofs.«01_k».proof.Proof.Mix.State

@[expose] public section

set_option maxRecDepth 16384

namespace Cert.Mix
open Finset Idealize.ShloMosaic

theorem sum_fin (n : ℕ) (f : ℕ → ℝ) : ∑ i : Fin n, (f i.val : EReal) = ((∑ i ∈ range n, f i : ℝ) : EReal) := by
  rw [sum_coe, Fin.sum_univ_eq_sum_range f n]

/-- A row of real numbers, turned, is the real row turned. -/
theorem rot_coe (x : ℕ → ℝ) (n : ℕ) (d : Fin 128) :
    rotI (fun d => ((x d.val : ℝ) : EReal)) (fun d => ((Real.cos (angR n (d.val % 64)) : ℝ) : EReal))
      (fun d => ((if d.val < 64 then - Real.sin (angR n d.val) else Real.sin (angR n (d.val - 64)) : ℝ) : EReal)) d
      = ((rotR x n d.val : ℝ) : EReal) := by
  unfold rotI rotR
  simp only [← EReal.coe_mul, ← EReal.coe_add]
  congr 1
  by_cases h : d.val < 64
  · simp only [if_pos h]
    rw [show (d.val + 128 - 64) % 128 = d.val + 64 by omega, Nat.mod_eq_of_lt h]; ring
  · simp only [if_neg h]
    rw [show (d.val + 128 - 64) % 128 = d.val - 64 by omega, show d.val % 64 = d.val - 64 by omega]

end Cert.Mix

namespace Cert.KernelIdeal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)
variable (Z W : ℕ → ℕ → ℝ)

/-- The two projections hold real numbers where the retention and the pooling read them. -/
structure Finite : Prop where
  z : ∀ (i : Fin 8192) (j : Fin 3072), m ((c : Thread nD τ).loc main_arg0) (ix2 i j) = ((Z i.val j.val : ℝ) : EReal)
  w : ∀ (i : Fin 8192) (j : Fin 8192), j.val < 2048 → m ((c : Thread nD τ).loc main_arg1) (ix2 i j) = ((W i.val j.val : ℝ) : EReal)

theorem row_split (t r : ℕ) : 256 * t + r = 4096 * (t / 16) + (256 * (t % 16) + r) := by omega

variable {m c Z W} (F : Finite m c Z W)
include F

theorem qRot_coe (h : Fin 8) (r : Fin 256) (d : Fin 128) :
    qRot m c t h r d = ((qR Z (t.val / 16) h.val (256 * (t.val % 16) + r.val) d : ℝ) : EReal) := by
  unfold qRot
  rw [show (fun d : Fin 128 => iblk m c 0 t (ix2 r ⟨128 * h.val + d.val, by omega⟩))
      = fun d => ((Z (256 * t.val + r.val) (1024 + 128 * h.val + d.val) : ℝ) : EReal) from
        funext fun d => by rw [blk0, F.z, add_assoc],
    show (fun d : Fin 128 => iblk m c 9 t (ix2 r d)) = _ from funext fun d => blk9 m c t r d,
    show (fun d : Fin 128 => iblk m c 10 t (ix2 r d)) = _ from funext fun d => blk10 m c t r d]
  rw [rot_coe (fun d => Z (256 * t.val + r.val) (1024 + 128 * h.val + d))]
  rw [qR, row_split]

theorem kRot_coe (h : Fin 8) (r : Fin 256) (d : Fin 128) :
    kRot m c t h r d = ((kR Z (t.val / 16) h.val (256 * (t.val % 16) + r.val) d : ℝ) : EReal) := by
  unfold kRot
  rw [show (fun d : Fin 128 => iblk m c 1 t (ix2 r ⟨128 * h.val + d.val, by omega⟩))
      = fun d => ((Z (256 * t.val + r.val) (2048 + 128 * h.val + d.val) : ℝ) : EReal) from
        funext fun d => by rw [blk1, F.z, add_assoc],
    show (fun d : Fin 128 => iblk m c 9 t (ix2 r d)) = _ from funext fun d => blk9 m c t r d,
    show (fun d : Fin 128 => iblk m c 10 t (ix2 r d)) = _ from funext fun d => blk10 m c t r d]
  rw [rot_coe (fun d => Z (256 * t.val + r.val) (2048 + 128 * h.val + d)), bits_kScale, ← EReal.coe_mul]
  rw [kR, row_split]

theorem v_coe (h : Fin 8) (r e : Fin 256) :
    iblk m c 2 t (ix2 r ⟨256 * h.val + e.val, by omega⟩)
      = ((vR W (t.val / 16) h.val (256 * (t.val % 16) + r.val) e.val : ℝ) : EReal) := by
  rw [blk2, F.w _ _ (by show 0 + (256 * h.val + e.val) < 2048; omega), vR, ← row_split]
  simp only [zero_add]

omit F in
theorem gamma_coe (h : Fin 8) : gammaN h = ((gam h.val ^ 256 : ℝ) : EReal) := by
  fin_cases h <;>
  · refine (IdealRules.named_const.ideal_named_scalar _ _ _ _ rfl).trans ?_
    congr 1
    unfold gam
    norm_num

/-- The state after a block, over the reals. -/
theorem stNext_coe (h : Fin 8) (S : Fin 128 → Fin 256 → EReal)
    (hS : ∀ d e, S d e = ((st (gam h.val) (fun j => kR Z (t.val / 16) h.val j d)
      (fun j => vR W (t.val / 16) h.val j e.val) (t.val % 16) : ℝ) : EReal)) (d : Fin 128) (e : Fin 256) :
    stNext m c t h S d e = ((st (gam h.val) (fun j => kR Z (t.val / 16) h.val j d)
      (fun j => vR W (t.val / 16) h.val j e.val) (t.val % 16 + 1) : ℝ) : EReal) := by
  unfold stNext stepState
  simp only [hS, gamma_coe, kRot_coe t F, v_coe t F, blk13, ← EReal.coe_mul]
  rw [sum_fin 256 (fun r => kR Z (t.val / 16) h.val (256 * (t.val % 16) + r) d * gam h.val ^ (255 - r)
    * vR W (t.val / 16) h.val (256 * (t.val % 16) + r) e.val), ← EReal.coe_add, st_succ]

/-- The state that point `t` leaves. -/
theorem state_coe (h : Fin 8) (d : Fin 128) (e : Fin 256) (n : ℕ) (hn : n < cfg0.N) :
    (outsAt0 m c n hn).2.2 (ix3 h d e) = ((st (gam h.val) (fun j => kR Z (n / 16) h.val j d)
      (fun j => vR W (n / 16) h.val j e.val) (n % 16 + 1) : ℝ) : EReal) := by
  induction n generalizing d e with
  | zero =>
    refine (state_A m c ⟨0, hn⟩ rfl h d e).trans (stNext_coe ⟨0, hn⟩ F h _ (fun d e => ?_) d e)
    show _ = ((st _ _ _ 0 : ℝ) : EReal)
    rw [st_zero]; rfl
  | succ n ih =>
    by_cases h0 : (n + 1) % 16 = 0
    · refine (state_A m c ⟨n + 1, hn⟩ h0 h d e).trans (stNext_coe ⟨n + 1, hn⟩ F h _ (fun d e => ?_) d e)
      show _ = ((st _ _ _ ((n + 1) % 16) : ℝ) : EReal)
      rw [h0, st_zero]; rfl
    · refine (state_B m c ⟨n + 1, hn⟩ h0 h d e).trans (stNext_coe ⟨n + 1, hn⟩ F h _ (fun d e => ?_) d e)
      refine (ih d e (by omega)).trans ?_
      show _ = ((st _ (fun j => kR Z ((n + 1) / 16) h.val j d) (fun j => vR W ((n + 1) / 16) h.val j e.val) ((n + 1) % 16) : ℝ) : EReal)
      rw [show (n + 1) / 16 = n / 16 by omega, show (n + 1) % 16 = n % 16 + 1 by omega]

/-- The retention of a row from the state before it, over the reals. -/
theorem retRow_coe (S : Fin 8 → Fin 128 → Fin 256 → EReal)
    (hS : ∀ h d e, S h d e = ((st (gam h.val) (fun j => kR Z (t.val / 16) h.val j d)
      (fun j => vR W (t.val / 16) h.val j e.val) (t.val % 16) : ℝ) : EReal)) (h : Fin 8) (r e : Fin 256) :
    retRow m c t S h r e = ((retR Z W (t.val / 16) h.val (256 * (t.val % 16) + r.val) e.val : ℝ) : EReal) := by
  unfold retRow headRaw
  simp only [hS, qRot_coe t F, kRot_coe t F, v_coe t F, blk11, blk12, ← EReal.coe_mul, sum_coe]
  rw [Fin.sum_univ_eq_sum_range (fun j => (∑ d, qR Z (t.val / 16) h.val (256 * (t.val % 16) + r.val) d * kR Z (t.val / 16) h.val (256 * (t.val % 16) + j) d)
    * dec (gam h.val) r.val j * vR W (t.val / 16) h.val (256 * (t.val % 16) + j) e.val) 256, ← EReal.coe_add, retR,
    ret_split _ _ _ _ (t.val % 16) r.val 4096 (by omega) r.isLt]

/-- The pooled row, over the reals. -/
theorem pooledK_coe (g : Fin 4) (r d : Fin 256) :
    pooledK (2 ^ (g.val + 1)) (t.val % 16) (fun j => iblk m c 6 t (ix2 j ⟨256 * g.val + d.val, by omega⟩))
      (fun j => iblk m c 7 t (ix2 j ⟨256 * g.val + d.val, by omega⟩)) r
      = ((poolR Z (t.val / 16) (2 ^ (g.val + 1)) (256 * (t.val % 16) + r.val) (256 * g.val + d.val) : ℝ) : EReal) := by
  have hp : ∀ j : Fin 256, iblk m c 6 t (ix2 j ⟨256 * g.val + d.val, by omega⟩)
      = ((Z (4096 * (t.val / 16) + (256 * (t.val % 16) + j.val)) (256 * g.val + d.val) : ℝ) : EReal) := fun j => by
    rw [blk6, F.z, ← row_split]
    simp only [zero_add]
  have hh : ∀ j : Fin 16, (if t.val % 16 = 0 then (0 : EReal) else iblk m c 7 t (ix2 j ⟨256 * g.val + d.val, by omega⟩))
      = (((if t.val % 16 = 0 then 0 else Z (4096 * (t.val / 16) + (256 * (t.val % 16) + j.val - 16)) (256 * g.val + d.val)) : ℝ) : EReal) := fun j => by
    by_cases h : t.val % 16 = 0
    · simp only [if_pos h]; rfl
    · simp only [if_neg h]
      rw [blk7 m c t _ _ (by omega), F.z]
      simp only
      rw [show 256 * t.val - 16 + j.val = 4096 * (t.val / 16) + (256 * (t.val % 16) + j.val - 16) by omega]
  have hi : ∀ p : Prop, ∀ [Decidable p], (if p then (1 : EReal) else 0) = (((if p then 1 else 0) : ℝ) : EReal) := fun p _ => by
    split <;> rfl
  have hw : 1 ≤ 2 ^ (g.val + 1) ∧ 2 ^ (g.val + 1) ≤ 16  :=
    (by decide : ∀ g : Fin 4, 1 ≤ 2 ^ (g.val + 1) ∧ 2 ^ (g.val + 1) ≤ 16) g
  have hc : (((min (256 * (t.val % 16) + r.val + 1) (2 ^ (g.val + 1)) : ℕ)) : ℝ) ≠ 0 := by
    have := hw.1
    exact_mod_cast (by omega : (min (256 * (t.val % 16) + r.val + 1) (2 ^ (g.val + 1)) : ℕ) ≠ 0)
  unfold pooledK
  simp only [hp, hh, hi, ← EReal.coe_mul]
  rw [sum_fin 256 (fun j => (if j ≤ r.val ∧ r.val < j + 2 ^ (g.val + 1) then 1 else 0) * Z (4096 * (t.val / 16) + (256 * (t.val % 16) + j)) (256 * g.val + d.val)),
    sum_fin 16 (fun j => (if r.val + 16 < j + 2 ^ (g.val + 1) then 1 else 0) *
      (if t.val % 16 = 0 then 0 else Z (4096 * (t.val / 16) + (256 * (t.val % 16) + j - 16)) (256 * g.val + d.val))),
    ← EReal.coe_add, ← window_split (fun n => Z (4096 * (t.val / 16) + n) (256 * g.val + d.val)) _ _ _ hw.1 hw.2 r.isLt,
    Ideal.div_coe hc, ← EReal.coe_mul, ← EReal.coe_sub, mul_one_div]
  rfl
end Cert.KernelIdeal.Gen
-- ==== Proof.Mix.Concat.lean ====
module

public import proofs.«01_k».proof.Proof.Gen.KernelIdeal.Frame
public import Idealize.ShloMosaic.Lib.Pipeline.ValueKit
public import Idealize.ShloMosaic.Lib.ValueIdx

@[expose] public section

set_option maxRecDepth 16384
namespace Cert.KernelIdeal.Gen
open Idealize.ShloMosaic Idealize.ShloMosaic.TcCoe Idealize.ShloMosaic.Tactic Idealize.SL.Sem Idealize.ShloMosaic.Pipeline

/-! Eight (or four) pieces of 256 columns laid side by side, read at a column of piece `k`. -/

theorem concat8_apply {α : Type} (A : Fin 8 → S256x256.Idx → α)
    (h : Shape.Concatenates ([⟨S256x256, A 0⟩, ⟨S256x256, A 1⟩, ⟨S256x256, A 2⟩, ⟨S256x256, A 3⟩, ⟨S256x256, A 4⟩,
      ⟨S256x256, A 5⟩, ⟨S256x256, A 6⟩, ⟨S256x256, A 7⟩].map fun x : (s : Shape) × (s.Idx → α) => x.1) S256x2048 1)
    (r : Fin 256) (k : Fin 8) (e : Fin 256) (n : Fin 2048) (hn : n.val = 256 * k.val + e.val) :
    concatenate S256x2048 1 [⟨S256x256, A 0⟩, ⟨S256x256, A 1⟩, ⟨S256x256, A 2⟩, ⟨S256x256, A 3⟩, ⟨S256x256, A 4⟩,
      ⟨S256x256, A 5⟩, ⟨S256x256, A 6⟩, ⟨S256x256, A 7⟩] h (ix2 r n) = A k (ix2 r e) := by
  have key : ∀ (k' : Nat) (hk : k' < 8) (hk' : k' = k.val),
      concatenate S256x2048 1 [⟨S256x256, A 0⟩, ⟨S256x256, A 1⟩, ⟨S256x256, A 2⟩, ⟨S256x256, A 3⟩, ⟨S256x256, A 4⟩,
      ⟨S256x256, A 5⟩, ⟨S256x256, A 6⟩, ⟨S256x256, A 7⟩] h (ix2 r n) = A ⟨k', hk⟩ (ix2 r e) := by
    intro k' hk hk'
    refine concatenate_apply_piece (t := S256x2048) 1 _ h (ix2 r n) k' hk S256x256 (A ⟨k', hk⟩) ?_ rfl (256 * k') ?_ (ix2 r e) ?_ ?_
    · interval_cases k' <;> rfl
    · interval_cases k' <;> rfl
    · intro b hb
      fin_cases b
      · rfl
      · exact absurd rfl hb
    · rw [hk']; exact hn.symm
  exact key k.val k.isLt rfl

theorem concat4_apply {α : Type} (A : Fin 4 → S256x256.Idx → α)
    (h : Shape.Concatenates ([⟨S256x256, A 0⟩, ⟨S256x256, A 1⟩, ⟨S256x256, A 2⟩, ⟨S256x256, A 3⟩].map
      fun x : (s : Shape) × (s.Idx → α) => x.1) S256x1024 1)
    (r : Fin 256) (k : Fin 4) (e : Fin 256) (n : Fin 1024) (hn : n.val = 256 * k.val + e.val) :
    concatenate S256x1024 1 [⟨S256x256, A 0⟩, ⟨S256x256, A 1⟩, ⟨S256x256, A 2⟩, ⟨S256x256, A 3⟩] h (ix2 r n)
      = A k (ix2 r e) := by
  have key : ∀ (k' : Nat) (hk : k' < 4) (hk' : k' = k.val),
      concatenate S256x1024 1 [⟨S256x256, A 0⟩, ⟨S256x256, A 1⟩, ⟨S256x256, A 2⟩, ⟨S256x256, A 3⟩] h (ix2 r n)
        = A ⟨k', hk⟩ (ix2 r e) := by
    intro k' hk hk'
    refine concatenate_apply_piece (t := S256x1024) 1 _ h (ix2 r n) k' hk S256x256 (A ⟨k', hk⟩) ?_ rfl (256 * k') ?_ (ix2 r e) ?_ ?_
    · interval_cases k' <;> rfl
    · interval_cases k' <;> rfl
    · intro b hb
      fin_cases b
      · rfl
      · exact absurd rfl hb
    · rw [hk']; exact hn.symm
  exact key k.val k.isLt rfl
theorem concat8_at {α : Type} (A0 A1 A2 A3 A4 A5 A6 A7 : S256x256.Idx → α)
    (h : Shape.Concatenates ([⟨S256x256, A0⟩, ⟨S256x256, A1⟩, ⟨S256x256, A2⟩, ⟨S256x256, A3⟩, ⟨S256x256, A4⟩,
      ⟨S256x256, A5⟩, ⟨S256x256, A6⟩, ⟨S256x256, A7⟩].map fun x : (s : Shape) × (s.Idx → α) => x.1) S256x2048 1)
    (r : Fin 256) (k : Fin 8) (e : Fin 256) (n : Fin 2048) (hn : n.val = 256 * k.val + e.val) :
    concatenate S256x2048 1 [⟨S256x256, A0⟩, ⟨S256x256, A1⟩, ⟨S256x256, A2⟩, ⟨S256x256, A3⟩, ⟨S256x256, A4⟩,
      ⟨S256x256, A5⟩, ⟨S256x256, A6⟩, ⟨S256x256, A7⟩] h (ix2 r n)
        = (![A0, A1, A2, A3, A4, A5, A6, A7] : Fin 8 → S256x256.Idx → α) k (ix2 r e) :=
  concat8_apply ![A0, A1, A2, A3, A4, A5, A6, A7] h r k e n hn

theorem concat4_at {α : Type} (A0 A1 A2 A3 : S256x256.Idx → α)
    (h : Shape.Concatenates ([⟨S256x256, A0⟩, ⟨S256x256, A1⟩, ⟨S256x256, A2⟩, ⟨S256x256, A3⟩].map
      fun x : (s : Shape) × (s.Idx → α) => x.1) S256x1024 1)
    (r : Fin 256) (k : Fin 4) (e : Fin 256) (n : Fin 1024) (hn : n.val = 256 * k.val + e.val) :
    concatenate S256x1024 1 [⟨S256x256, A0⟩, ⟨S256x256, A1⟩, ⟨S256x256, A2⟩, ⟨S256x256, A3⟩] h (ix2 r n)
      = (![A0, A1, A2, A3] : Fin 4 → S256x256.Idx → α) k (ix2 r e) :=
  concat4_apply ![A0, A1, A2, A3] h r k e n hn
end Cert.KernelIdeal.Gen
-- ==== Proof.Mix.Pooled.lean ====
module

public import proofs.«01_k».proof.Proof.Mix.Spec
public import proofs.«01_k».proof.Proof.Mix.Bits

@[expose] public section

set_option maxRecDepth 16384
namespace Cert.Mix
open Idealize.ShloMosaic

/-- The pooled entry as masked sums over words: the first 16 rows of the block also see the 16 rows before it. -/
theorem pooled_word (w s s' : Nat) (hw : w ≤ 16) (hss : s = s') (hs : s < 16) (p : Fin 256 → EReal) (halo : Fin 16 → EReal)
    (r : Fin 256) :
    Ideal.div (if h : r.val < 16 then
        (∑ x : Fin 256, (FloatOps.sitofp FTy.f32 (BitVec.setWidth 32
          (IntOp.andi (IntOp.cmpi CmpIPredicate.sle (BitVec.ofNat 32 x.val) (BitVec.ofNat 32 r.val))
            (IntOp.cmpi CmpIPredicate.sgt (BitVec.ofNat 32 x.val) (IntOp.subi (BitVec.ofNat 32 r.val) (BitVec.ofNat 32 w))))) : Ideal .f32)
          * p x) +
        ∑ x : Fin 16, Scalar.select (Scalar.cmpi CmpIPredicate.eq (Scalar.muli (BitVec.ofNat 32 s) 256#32) 0#32) (0 : EReal)
          ((FloatOps.sitofp FTy.f32 (BitVec.setWidth 32
            (IntOp.cmpi CmpIPredicate.sgt (IntOp.subi (BitVec.ofNat 32 x.val) 16#32)
              (IntOp.subi (BitVec.ofNat 32 r.val) (BitVec.ofNat 32 w)))) : Ideal .f32) * halo x)
      else
        ∑ x : Fin 256, (FloatOps.sitofp FTy.f32 (BitVec.setWidth 32
          (IntOp.andi (IntOp.cmpi CmpIPredicate.sle (BitVec.ofNat 32 x.val) (BitVec.ofNat 32 (16 + (r.val - 16))))
            (IntOp.cmpi CmpIPredicate.sgt (BitVec.ofNat 32 x.val)
              (IntOp.subi (BitVec.ofNat 32 (16 + (r.val - 16))) (BitVec.ofNat 32 w))))) : Ideal .f32) * p x)
      (FloatOps.sitofp FTy.f32 (IntOp.minsi (IntOp.addi (IntOp.addi (Scalar.muli (BitVec.ofNat 32 s) 256#32)
        (BitVec.ofNat 32 r.val)) 1#32) (BitVec.ofNat 32 w)) : Ideal .f32) - p r
      = pooledK w s' p halo r := by
  subst hss
  unfold pooledK
  rw [count_word s r.val w hs r.isLt (by omega)]
  congr 2
  by_cases h : r.val < 16
  · rw [dif_pos h]
    congr 1
    · exact Finset.sum_congr rfl fun x _ => congrArg (· * p x) (mask_main x.val r.val w x.isLt r.isLt (by omega))
    · refine Finset.sum_congr rfl fun x _ => ?_
      refine (first_word s hs _ _).trans ?_
      rw [mask_halo x.val r.val w x.isLt r.isLt (by omega)]
      by_cases h0 : s = 0
      · simp [h0]
      · simp only [h0, if_false]
  · rw [dif_neg h]
    have e : 16 + (r.val - 16) = r.val := by omega
    rw [e]
    rw [Finset.sum_eq_zero (s := (Finset.univ : Finset (Fin 16))), add_zero]
    · exact Finset.sum_congr rfl fun x _ => congrArg (· * p x) (mask_main x.val r.val w x.isLt r.isLt (by omega))
    · intro x _
      rw [if_neg (by omega), zero_mul]
end Cert.Mix
-- ==== Proof.Mix.Block.lean ====
module

public import proofs.«01_k».proof.Proof.Mix.Point
public import proofs.«01_k».proof.Proof.Mix.Concat
public import proofs.«01_k».proof.Proof.Mix.Pooled

@[expose] public section

set_option maxRecDepth 16384
namespace Cert.KernelIdeal.Gen
open Idealize.ShloMosaic Idealize.ShloMosaic.TcCoe Idealize.ShloMosaic.Tactic Idealize.SL.Sem Idealize.ShloMosaic.Pipeline
open Cert.Mix

/-! The two blocks that a grid point writes, read at an element. -/

theorem coords_row : ∀ t : Fin grid0.N, (grid0.coords t 1).val = t.val % 16 := by decide +kernel

set_option maxHeartbeats 8000000 in
theorem blocks_B (m : (ℓ : Loc nD τ sig) → Buf (Elt Ideal) ℓ) (c : Dev nD) (t : Fin cfg0.N) (h0 : ¬t.val % 16 = 0)
    (r : Fin 256) (n : Fin 2048) :
    ((outsAt0 m c t.val t.isLt).1 (ix2 r n), (outsAt0 m c t.val t.isLt).2.1 (ix2 r n))
      = (h1Blk m c t (fun h d e => (outsAt0 m c (t.val - 1) (lt_of_le_of_lt (Nat.sub_le _ _) t.isLt)).2.2 (ix3 h d e)) r n,
         rmsRow (h1Blk m c t (fun h d e => (outsAt0 m c (t.val - 1) (lt_of_le_of_lt (Nat.sub_le _ _) t.isLt)).2.2 (ix3 h d e)) r) (fun k => iblk m c 20 t (ix2 0 k)) n) := by
  rw [outsAt0_B m c t h0]
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  unfold h1Blk
  generalize hO : concatenate S256x2048 1 [_, _, _, _, _, _, _, _] _ = O
  have hO' : ∀ r : Fin 256, (fun j : Fin 2048 => oEl m c t (fun h d e => (outsAt0 m c (t.val - 1) (lt_of_le_of_lt (Nat.sub_le _ _) t.isLt)).2.2 (ix3 h d e)) r
      ⟨j.val / 256, by omega⟩ ⟨j.val % 256, by omega⟩) = fun j => O (ix2 r j) := by
    intro r
    funext j
    rw [← hO]
    clear hO
    refine Eq.symm ((concat8_at _ _ _ _ _ _ _ _ _ r ⟨j.val / 256, by omega⟩ ⟨j.val % 256, by omega⟩ j (by
      show j.val = 256 * (j.val / 256) + j.val % 256
      omega)).trans ?_)
    generalize (⟨j.val / 256, _⟩ : Fin 8) = k
    generalize (⟨j.val % 256, _⟩ : Fin 256) = e
    unfold oEl retRow qRot kRot
    fin_cases k
    all_goals
      dsimp only [Matrix.cons_val, Fin.reduceFinMk]
      open_payloads
      pointwise
      simp only [Memref.IsWhole.read_unread, read_unread_whole]
      unfold gated groupNorm headRaw rotI tsig
    all_goals
      generalize iblk m c 0 t = X0
      generalize iblk m c 1 t = X1
      generalize iblk m c 2 t = X2
      generalize iblk m c 3 t = X3
      generalize iblk m c 9 t = X9
      generalize iblk m c 10 t = X10
      generalize iblk m c 11 t = X11
      generalize iblk m c 12 t = X12
      generalize iblk m c 14 t = X14
      generalize (outsAt0 m c (t.val - 1) _).2.2 = S
      try simp only [Nat.mul_zero, Nat.zero_add]
    all_goals rfl
  rw [hO']
  clear hO' hO
  open_payloads
  generalize hP : concatenate S256x1024 1 [_, _, _, _] _ = P
  have hP' : ∀ r : Fin 256, (fun j : Fin 1024 => pEl m c t r ⟨j.val / 256, by omega⟩ ⟨j.val % 256, by omega⟩)
      = fun j => P (ix2 r j) := by
    intro r
    funext j
    rw [← hP]
    clear hP
    refine Eq.symm ((concat4_at _ _ _ _ _ r ⟨j.val / 256, by omega⟩ ⟨j.val % 256, by omega⟩ j (by
      show j.val = 256 * (j.val / 256) + j.val % 256
      omega)).trans ?_)
    generalize (⟨j.val / 256, _⟩ : Fin 4) = k
    generalize (⟨j.val % 256, _⟩ : Fin 256) = e
    unfold pEl poolMix
    fin_cases k
    all_goals
      pointwise
      simp only [Memref.IsWhole.read_unread, read_unread_whole]
      refine congrArg (· * _) (Finset.sum_congr rfl fun x _ => congrArg (· * _) ?_)
    · exact pooled_word 2 _ _ (by decide) (coords_row t) (by rw [coords_row t]; omega) _ _ r
    · exact pooled_word 4 _ _ (by decide) (coords_row t) (by rw [coords_row t]; omega) _ _ r
    · exact pooled_word 8 _ _ (by decide) (coords_row t) (by rw [coords_row t]; omega) _ _ r
    · exact pooled_word 16 _ _ (by decide) (coords_row t) (by rw [coords_row t]; omega) _ _ r
  rw [hP']
  clear hP' hP
  refine Prod.ext ?_ ?_ <;> dsimp only
  · pointwise
    rfl
  · pointwise
    rfl

set_option maxHeartbeats 8000000 in
theorem blocks_A (m : (ℓ : Loc nD τ sig) → Buf (Elt Ideal) ℓ) (c : Dev nD) (t : Fin cfg0.N) (h0 : t.val % 16 = 0)
    (r : Fin 256) (n : Fin 2048) :
    ((outsAt0 m c t.val t.isLt).1 (ix2 r n), (outsAt0 m c t.val t.isLt).2.1 (ix2 r n))
      = (h1Blk m c t (fun _ _ _ => 0) r n,
         rmsRow (h1Blk m c t (fun _ _ _ => 0) r) (fun k => iblk m c 20 t (ix2 0 k)) n) := by
  rw [outsAt0_A m c t h0]
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  unfold h1Blk
  generalize hO : concatenate S256x2048 1 [_, _, _, _, _, _, _, _] _ = O
  have hO' : ∀ r : Fin 256, (fun j : Fin 2048 => oEl m c t (fun _ _ _ => 0) r
      ⟨j.val / 256, by omega⟩ ⟨j.val % 256, by omega⟩) = fun j => O (ix2 r j) := by
    intro r
    funext j
    rw [← hO]
    clear hO
    refine Eq.symm ((concat8_at _ _ _ _ _ _ _ _ _ r ⟨j.val / 256, by omega⟩ ⟨j.val % 256, by omega⟩ j (by
      show j.val = 256 * (j.val / 256) + j.val % 256
      omega)).trans ?_)
    generalize (⟨j.val / 256, _⟩ : Fin 8) = k
    generalize (⟨j.val % 256, _⟩ : Fin 256) = e
    unfold oEl retRow qRot kRot
    fin_cases k
    all_goals
      dsimp only [Matrix.cons_val, Fin.reduceFinMk]
      open_payloads
      pointwise
      simp (disch := decide) only [↓ View.readCov_skip, ↓ View.readCov_fill, View.ld, broadcast, Memref.IsWhole.read_unread]
      unfold gated groupNorm headRaw rotI tsig
    all_goals
      generalize iblk m c 0 t = X0
      generalize iblk m c 1 t = X1
      generalize iblk m c 2 t = X2
      generalize iblk m c 3 t = X3
      generalize iblk m c 9 t = X9
      generalize iblk m c 10 t = X10
      generalize iblk m c 11 t = X11
      generalize iblk m c 12 t = X12
      generalize iblk m c 14 t = X14
      try simp only [Nat.mul_zero, Nat.zero_add]
    all_goals rfl
  rw [hO']
  clear hO' hO
  open_payloads
  generalize hP : concatenate S256x1024 1 [_, _, _, _] _ = P
  have hP' : ∀ r : Fin 256, (fun j : Fin 1024 => pEl m c t r ⟨j.val / 256, by omega⟩ ⟨j.val % 256, by omega⟩)
      = fun j => P (ix2 r j) := by
    intro r
    funext j
    rw [← hP]
    clear hP
    refine Eq.symm ((concat4_at _ _ _ _ _ r ⟨j.val / 256, by omega⟩ ⟨j.val % 256, by omega⟩ j (by
      show j.val = 256 * (j.val / 256) + j.val % 256
      omega)).trans ?_)
    generalize (⟨j.val / 256, _⟩ : Fin 4) = k
    generalize (⟨j.val % 256, _⟩ : Fin 256) = e
    unfold pEl poolMix
    fin_cases k
    all_goals
      pointwise
      simp only [Memref.IsWhole.read_unread, read_unread_whole]
      refine congrArg (· * _) (Finset.sum_congr rfl fun x _ => congrArg (· * _) ?_)
    · exact pooled_word 2 _ _ (by decide) (coords_row t) (by rw [coords_row t]; omega) _ _ r
    · exact pooled_word 4 _ _ (by decide) (coords_row t) (by rw [coords_row t]; omega) _ _ r
    · exact pooled_word 8 _ _ (by decide) (coords_row t) (by rw [coords_row t]; omega) _ _ r
    · exact pooled_word 16 _ _ (by decide) (coords_row t) (by rw [coords_row t]; omega) _ _ r
  rw [hP']
  clear hP' hP
  refine Prod.ext ?_ ?_ <;> dsimp only
  · pointwise
    rfl
  · pointwise
    rfl

end Cert.KernelIdeal.Gen
-- ==== Proof.Mix.RefPool.lean ====
module

public import proofs.«01_k».proof.Proof.Gen.ReferenceIdeal.Read
public import proofs.«01_k».proof.Proof.Mix.Real
public import proofs.«01_k».proof.Proof.Mix.Spec
public import Idealize.ShloMosaic.Lib.Pipeline.ValueKit
public import Idealize.ShloMosaic.Lib.ValueIdx

@[expose] public section

set_option maxRecDepth 16384

namespace Cert.Mix
open Finset Idealize.ShloMosaic

/-- The last frame before a window, as the words compute it. -/
theorem start_word (n w : ℕ) (hn : n < 4096) (hw : w < 256) :
    (IntOp.maxsi (IntOp.subi (IntOp.addi (BitVec.ofNat 32 n) 1#32) (BitVec.ofNat 32 w)) 0#32).toInt.toNat = n + 1 - w := by
  have e : IntOp.addi (BitVec.ofNat 32 n) 1#32 = BitVec.ofNat 32 (n + 1) := by
    unfold IntOp.addi; rw [BitVec.ofNat_add]
  have t := toInt_sub_small (n + 1) w (by omega) (by omega)
  rw [e]
  unfold IntOp.maxsi IntOp.subi
  rw [BitVec.slt_eq_decide, t, show (0#32).toInt = 0 from rfl]
  by_cases h : n + 1 ≤ w
  · rw [if_neg (by simp; omega)]
    simp; omega
  · rw [if_pos (by simp; omega), t]
    omega

/-- The number of frames of a window, as the words compute it. -/
theorem frames_word (n w : ℕ) (hn : n < 4096) (hw : w < 256) :
    (FloatOps.sitofp FTy.f32 (IntOp.minsi (IntOp.addi (BitVec.ofNat 32 n) 1#32) (BitVec.ofNat 32 w)) : Ideal .f32)
      = (((min (n + 1) w : ℕ) : ℝ) : EReal) := by
  have e : IntOp.addi (BitVec.ofNat 32 n) 1#32 = BitVec.ofNat 32 (n + 1) := by
    unfold IntOp.addi; rw [BitVec.ofNat_add]
  have h : IntOp.minsi (IntOp.addi (BitVec.ofNat 32 n) 1#32) (BitVec.ofNat 32 w) = BitVec.ofNat 32 (min (n + 1) w) := by
    rw [e]
    unfold IntOp.minsi
    rw [BitVec.slt_eq_decide, toInt_small _ (by omega), toInt_small _ (by omega)]
    by_cases h : n + 1 < w
    · rw [if_pos (by simp; omega), min_eq_left (by omega)]
    · rw [if_neg (by simp; omega), min_eq_right (by omega)]
  rw [h, sitofp_small _ (by omega)]

theorem foldl_sum {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window of 4096 positions that ends at position `n`, the positions before the start left out. -/
theorem window_sum (y : ℕ → EReal) (n : ℕ) (hn : n < 4096) :
    ∑ k ∈ range 4096, (if 4095 ≤ n + k then y (n + k - 4095) else 0) = ∑ j ∈ range (n + 1), y j := by
  rw [← sum_filter]
  refine sum_nbij' (fun k => n + k - 4095) (fun j => j + 4095 - n) ?_ ?_ ?_ ?_ ?_ <;>
    intro a ha <;> simp only [mem_filter, mem_range] at ha ⊢ <;> omega
end Cert.Mix

namespace Cert.ReferenceIdeal.Read
open Idealize.ShloMosaic Idealize.ShloMosaic.TcCoe Idealize.ShloMosaic.Tactic
open Cert.Mix Cert.ReferenceIdeal.Gen Finset

/-- The running sum along the frames. -/
theorem cumsum_at (x : S2x4096x1024.Idx → EReal) (y : ℕ → EReal) (b : Fin 2) (c : Fin 1024)
    (hx : ∀ j : Fin 4096, x (ix3 b j c) = y j.val) (init : S_.Idx → EReal) (h0 : ∀ i, init i = 0)
    (h : Shape.ReduceWindows S2x4096x1024 ![1, 4096, 1] ![1, 1, 1] ![0, 4095, 0] ![0, 0, 0] S2x4096x1024) (hu : 0 < S_.numel)
    (n : Fin 4096) :
    (Host.reduceWindowAdd (F := Ideal) (φ := .f32) ![1, 4096, 1] ![1, 1, 1] ![0, 4095, 0] ![0, 0, 0] x init h hu) (ix3 b n c)
      = ∑ j ∈ range (n.val + 1), y j := by
  unfold Host.reduceWindowAdd
  rw [Ideal.hostReduceWindowAdd_def, h0]
  unfold Ideal.hostReduceWindowAdd Host.reduceWindow
  dsimp only
  rw [foldl_sum, zero_add, ← Fin.sum_univ_def]
  rw [Finset.sum_congr rfl (g := fun k => (fun k : ℕ => if 4095 ≤ n.val + k then y (n.val + k - 4095) else 0) k.val) (fun k _ => ?_)]
  · rw [Fin.sum_univ_eq_sum_range (fun k : ℕ => if 4095 ≤ n.val + k then y (n.val + k - 4095) else 0)]
    rw [show (⟨S2x4096x1024.rank, ![1, 4096, 1]⟩ : Shape).numel = 4096 from by decide +kernel]
    exact window_sum y n.val n.isLt
  · have hk := Shape.rowMajor_val_three ((⟨3, ![1, 4096, 1]⟩ : Shape).rowMajor.symm k)
    rw [Equiv.apply_symm_apply] at hk
    have h0 : ((⟨3, ![1, 4096, 1]⟩ : Shape).rowMajor.symm k 0).val < 1 := ((⟨3, ![1, 4096, 1]⟩ : Shape).rowMajor.symm k 0).isLt
    have h1 : ((⟨3, ![1, 4096, 1]⟩ : Shape).rowMajor.symm k 1).val < 4096 := ((⟨3, ![1, 4096, 1]⟩ : Shape).rowMajor.symm k 1).isLt
    have h2 : ((⟨3, ![1, 4096, 1]⟩ : Shape).rowMajor.symm k 2).val < 1 := ((⟨3, ![1, 4096, 1]⟩ : Shape).rowMajor.symm k 2).isLt
    have e1 : ((⟨3, ![1, 4096, 1]⟩ : Shape).rowMajor.symm k 1).val = k.val := by
      have hk' : k.val = (((⟨3, ![1, 4096, 1]⟩ : Shape).rowMajor.symm k 0).val * 4096
        + ((⟨3, ![1, 4096, 1]⟩ : Shape).rowMajor.symm k 1).val) * 1 + ((⟨3, ![1, 4096, 1]⟩ : Shape).rowMajor.symm k 2).val := hk
      omega
    have hn := n.isLt
    by_cases hc : 4095 ≤ n.val + k.val
    · rw [dif_pos]
      · refine Eq.trans ?_ (if_pos hc).symm
        refine Eq.trans (congrArg x ?_) (hx ⟨n.val + k.val - 4095, by omega⟩)
        funext a
        refine Fin.ext ?_
        match a with
        | ⟨0, _⟩ => show b.val * 1 + ((⟨3, ![1, 4096, 1]⟩ : Shape).rowMajor.symm k 0).val - 0 = b.val; omega
        | ⟨1, _⟩ => show n.val * 1 + ((⟨3, ![1, 4096, 1]⟩ : Shape).rowMajor.symm k 1).val - 4095 = n.val + k.val - 4095; omega
        | ⟨2, _⟩ => show c.val * 1 + ((⟨3, ![1, 4096, 1]⟩ : Shape).rowMajor.symm k 2).val - 0 = c.val; omega
      · intro a
        match a with
        | ⟨0, _⟩ =>
          show 0 ≤ b.val * 1 + ((⟨3, ![1, 4096, 1]⟩ : Shape).rowMajor.symm k 0).val ∧ b.val * 1 + ((⟨3, ![1, 4096, 1]⟩ : Shape).rowMajor.symm k 0).val - 0 < 2
          omega
        | ⟨1, _⟩ =>
          show 4095 ≤ n.val * 1 + ((⟨3, ![1, 4096, 1]⟩ : Shape).rowMajor.symm k 1).val ∧ n.val * 1 + ((⟨3, ![1, 4096, 1]⟩ : Shape).rowMajor.symm k 1).val - 4095 < 4096
          omega
        | ⟨2, _⟩ =>
          show 0 ≤ c.val * 1 + ((⟨3, ![1, 4096, 1]⟩ : Shape).rowMajor.symm k 2).val ∧ c.val * 1 + ((⟨3, ![1, 4096, 1]⟩ : Shape).rowMajor.symm k 2).val - 0 < 1024
          omega
    · rw [dif_neg]
      · exact (if_neg hc).symm
      intro hin
      have := (hin 1).1
      have : 4095 ≤ n.val * 1 + ((⟨3, ![1, 4096, 1]⟩ : Shape).rowMajor.symm k 1).val := this
      omega

/-- The gather along the frames. -/
theorem gather_at (x : S2x4097x256.Idx → EReal) (idx : IVec S4096x1 32) (b : Fin 2) (n : Fin 4096) (e : Fin 256) :
    Host.gather gather_S2x4097x256_S4096x1_S2x4096x256_02_1_n_n_1_1_21256 x idx (ix3 b n e)
      = x (ix3 b ⟨min (idx (ix2 n 0)).toInt.toNat 4096, by omega⟩ e) := by
  unfold Host.gather
  congr 1
  funext a
  refine Fin.ext ?_
  show gather_S2x4097x256_S4096x1_S2x4096x256_02_1_n_n_1_1_21256.start (ix3 b n e) idx a
    + gather_S2x4097x256_S4096x1_S2x4096x256_02_1_n_n_1_1_21256.batchCoord (ix3 b n e) a
    + gather_S2x4097x256_S4096x1_S2x4096x256_02_1_n_n_1_1_21256.offCoord (ix3 b n e) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (by decide), dif_pos (by decide)]
    simp only [Nat.add_zero, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2x4097x256_S4096x1_S2x4096x256_02_1_n_n_1_1_21256.startIndexMap from List.mem_singleton.mpr rfl)]
    have hsi : gather_S2x4097x256_S4096x1_S2x4096x256_02_1_n_n_1_1_21256.siIdx (ix3 b n e)
        ⟨List.idxOf (1 : Fin 3) gather_S2x4097x256_S4096x1_S2x4096x256_02_1_n_n_1_1_21256.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start GatherDims.offCoord
    rw [dif_neg (by decide), dif_pos (by decide)]
    simp only [Nat.add_zero, Nat.zero_add]
    rfl

/-- One group of the pooling: the difference of two running sums over the number of frames. -/
theorem pool_group (x : S2x4097x256.Idx → EReal) (w : ℕ) (hw : w < 256) (b : Fin 2) (n : Fin 4096) (e : Fin 256) :
    (Host.divf (F := Ideal) (φ := .f32) (subf (extractStridedSlice S2x4096x256 ![0, 1, 0] x slices_S2x4097x256_S2x4096x256_0_1_0)
      (Host.gather gather_S2x4097x256_S4096x1_S2x4096x256_02_1_n_n_1_1_21256 x (broadcastInDim S4096x1 ![0] bcast_S4096_S4096x1_0
        (maxsi (subi (addi (iotaInDim S4096 32 0) (broadcastInDim S4096 ![] bcast_S_S4096 (constantI S_ 32 1#32)))
          (broadcastInDim S4096 ![] bcast_S_S4096 (constantI S_ 32 (BitVec.ofNat 32 w))))
          (broadcastInDim S4096 ![] bcast_S_S4096 (constantI S_ 32 0#32))))))
      (broadcastInDim S2x4096x256 ![0, 1, 2] bcast_S1x4096x1_S2x4096x256_0_1_2 (broadcastInDim S1x4096x1 ![1] bcast_S4096_S1x4096x1_1
        (sitofp .f32 (minsi (addi (iotaInDim S4096 32 0) (broadcastInDim S4096 ![] bcast_S_S4096 (constantI S_ 32 1#32)))
          (broadcastInDim S4096 ![] bcast_S_S4096 (constantI S_ 32 (BitVec.ofNat 32 w)))))))) (ix3 b n e)
      = Ideal.div (x (ix3 b ⟨n.val + 1, by omega⟩ e) - x (ix3 b ⟨n.val + 1 - w, by omega⟩ e)) (((min (n.val + 1) w : ℕ) : ℝ) : EReal) := by
  change Ideal.div (_ - Host.gather _ x _ (ix3 b n e)) _ = _
  rw [gather_at]
  pointwise
  rw [frames_word n.val w n.isLt hw]
  congr 1
  congr 1
  · congr 1
    simp only [add_comm]
  · congr 2
    refine Fin.ext ?_
    have := start_word n.val w n.isLt hw
    show min _ 4096 = n.val + 1 - w
    omega

/-- The running sum with a zero before it. -/
theorem sums_at (x0 : S8192x3072.Idx → EReal) (Z : ℕ → ℕ → ℝ) (hZ : ∀ (i : Fin 8192) (j : Fin 3072), x0 (ix2 i j) = ((Z i.val j.val : ℝ) : EReal))
    (b : Fin 2) (n : Fin 4097) (c : Fin 1024) :
    val_main_v13 (F := Ideal) x0 (ix3 b n c) = ((∑ j ∈ range n.val, Z (4096 * b.val + j) c.val : ℝ) : EReal) := by
  have hx : ∀ j : Fin 4096, val_main_v5 (F := Ideal) x0 (ix3 b j c) = ((fun j : ℕ => ((Z (4096 * b.val + j) c.val : ℝ) : EReal)) j.val) := fun j => by
    unfold val_main_v5 val_main_v1 val_main_v0
    pointwise
    rw [hZ]
    simp only [mul_comm]
  have hc : ∀ j : Fin 4096, val_main_v12 (F := Ideal) x0 (ix3 b j c) = ∑ i ∈ range (j.val + 1), ((Z (4096 * b.val + i) c.val : ℝ) : EReal) := fun j => by
    unfold val_main_v12
    refine cumsum_at _ (fun j => ((Z (4096 * b.val + j) c.val : ℝ) : EReal)) b c hx _ (fun i => ?_) _ _ j
    unfold val_main_call0_call0_v0 val_main_call0_call0_cst
    pointwise
  unfold val_main_v13
  pointwise
  by_cases h : 1 ≤ n.val ∧ n.val - 1 < 4096
  · rw [dif_pos h, hc, sum_coe]
    simp only
    rw [show n.val - 1 + 1 = n.val by omega]
  · rw [dif_neg h, show n.val = 0 by have := n.isLt; omega]
    show (FloatOps.sitofp FTy.f32 (BitVec.ofNat 32 0) : Ideal .f32) = _
    rw [sitofp_small 0 (by decide)]
    simp

theorem slice_at (x : S2x4097x1024.Idx → EReal) (k : ℕ) (hk : k + 256 ≤ 1024)
    (h : S2x4097x1024.Slices ![0, 0, k] S2x4097x256) (b : Fin 2) (n : Fin 4097) (d : Fin 256) :
    extractStridedSlice S2x4097x256 ![0, 0, k] x h (ix3 b n d) = x (ix3 b n ⟨k + d.val, by omega⟩) := by
  refine extractStridedSlice_apply ![0, 0, k] x h _ _ (fun a => ?_)
  match a with
  | ⟨0, _⟩ => show b.val = 0 + b.val; omega
  | ⟨1, _⟩ => show n.val = 0 + n.val; omega
  | ⟨2, _⟩ => rfl

/-- A window's mean, over the reals. -/
theorem mean_coe (u v : ℝ) (n : ℕ) (hn : n ≠ 0) : Ideal.div ((u : EReal) - (v : EReal)) ((n : ℝ) : EReal) = (((u - v) / n : ℝ) : EReal) := by
  rw [← EReal.coe_sub, Ideal.div_coe (by exact_mod_cast hn), ← EReal.coe_mul, mul_one_div]

/-- The pooled columns: each of the four groups with its own window. -/
theorem pool_at (x0 : S8192x3072.Idx → EReal) (Z : ℕ → ℕ → ℝ) (hZ : ∀ (i : Fin 8192) (j : Fin 3072), x0 (ix2 i j) = ((Z i.val j.val : ℝ) : EReal))
    (b : Fin 2) (n : Fin 4096) (g : Fin 4) (d : Fin 256) :
    val_main_v88 (F := Ideal) x0 (ix3 b n ⟨256 * g.val + d.val, by omega⟩)
      = ((poolR Z b.val (2 ^ (g.val + 1)) n.val (256 * g.val + d.val) : ℝ) : EReal) := by
  have hd := d.isLt
  have hx : val_main_v5 (F := Ideal) x0 (ix3 b n ⟨256 * g.val + d.val, by omega⟩) = ((Z (4096 * b.val + n.val) (256 * g.val + d.val) : ℝ) : EReal) := by
    unfold val_main_v5 val_main_v1 val_main_v0
    pointwise
    rw [hZ]
    simp only [mul_comm]
  have key : ∀ (w k : ℕ) (hk : k + 256 ≤ 1024) (hw : 1 ≤ w) (hw' : w < 256) (h : S2x4097x1024.Slices ![0, 0, k] S2x4097x256),
      Ideal.div (extractStridedSlice S2x4097x256 ![0, 0, k] (val_main_v13 (F := Ideal) x0) h (ix3 b ⟨n.val + 1, by omega⟩ d)
        - extractStridedSlice S2x4097x256 ![0, 0, k] (val_main_v13 (F := Ideal) x0) h (ix3 b ⟨n.val + 1 - w, by omega⟩ d))
        (((min (n.val + 1) w : ℕ) : ℝ) : EReal)
      = (((∑ j ∈ range (n.val + 1), Z (4096 * b.val + j) (k + d.val) - ∑ j ∈ range (n.val + 1 - w), Z (4096 * b.val + j) (k + d.val))
          / ((min (n.val + 1) w : ℕ) : ℝ) : ℝ) : EReal) := fun w k hk hw hw' h => by
    rw [slice_at _ _ hk, slice_at _ _ hk, sums_at x0 Z hZ, sums_at x0 Z hZ, mean_coe _ _ _ (by omega)]
  have hm : val_main_v87 (F := Ideal) x0 (ix3 b n ⟨256 * g.val + d.val, by omega⟩)
      = (((∑ j ∈ range (n.val + 1), Z (4096 * b.val + j) (256 * g.val + d.val) - ∑ j ∈ range (n.val + 1 - 2 ^ (g.val + 1)), Z (4096 * b.val + j) (256 * g.val + d.val))
          / ((min (n.val + 1) (2 ^ (g.val + 1)) : ℕ) : ℝ) : ℝ) : EReal) := by
    unfold val_main_v87
    pointwise
    obtain ⟨g, hg⟩ := g
    have hg' : g = 0 ∨ g = 1 ∨ g = 2 ∨ g = 3 := by omega
    rcases hg' with rfl | rfl | rfl | rfl
    · rw [dif_pos (by simp only; omega)]
      refine Eq.trans (congrArg (fun e => val_main_v32 (F := Ideal) x0 (ix3 b n e)) (Fin.ext (by simp only; omega) : _ = d)) ?_
      exact (pool_group (val_main_v15 (F := Ideal) x0) 2 (by decide) b n d).trans (key 2 0 (by decide) (by decide) (by decide) _)
    · rw [dif_neg (by simp only; omega)]; rw [dif_pos (by simp only; omega)]
      refine Eq.trans (congrArg (fun e => val_main_v50 (F := Ideal) x0 (ix3 b n e)) (Fin.ext (by simp only; omega) : _ = d)) ?_
      exact (pool_group (val_main_v33 (F := Ideal) x0) 4 (by decide) b n d).trans (key 4 256 (by decide) (by decide) (by decide) _)
    · rw [dif_neg (by simp only; omega)]; rw [dif_neg (by simp only; omega)]; rw [dif_pos (by simp only; omega)]
      refine Eq.trans (congrArg (fun e => val_main_v68 (F := Ideal) x0 (ix3 b n e)) (Fin.ext (by simp only; omega) : _ = d)) ?_
      exact (pool_group (val_main_v51 (F := Ideal) x0) 8 (by decide) b n d).trans (key 8 512 (by decide) (by decide) (by decide) _)
    · rw [dif_neg (by simp only; omega)]; rw [dif_neg (by simp only; omega)]; rw [dif_neg (by simp only; omega)];
      refine Eq.trans (congrArg (fun e => val_main_v86 (F := Ideal) x0 (ix3 b n e)) (Fin.ext (by simp only; omega) : _ = d)) ?_
      exact (pool_group (val_main_v69 (F := Ideal) x0) 16 (by decide) b n d).trans (key 16 768 (by decide) (by decide) (by decide) _)
  rw [val_main_v88_apply, hm, hx, Ideal.subf_def, ← EReal.coe_sub]
  rfl
end Cert.ReferenceIdeal.Read
-- ==== Proof.Mix.RefRet.lean ====
module

public import proofs.«01_k».proof.Proof.Mix.RefPool

@[expose] public section

set_option maxRecDepth 16384

namespace Cert.ReferenceIdeal.Read
open Idealize.ShloMosaic Idealize.ShloMosaic.TcCoe Idealize.ShloMosaic.Tactic
open Cert.Mix Cert.ReferenceIdeal.Gen Finset

/-- The angles of the queries' rotation. -/
theorem angle_q (n : Fin 4096) (d : Fin 64) : val_main_v110 (F := Ideal) (ix2 n d) = ((angR n.val d.val : ℝ) : EReal) := by
  refine Eq.trans ?_ (ang_word n.val d.val (by omega) (by omega))
  unfold val_main_v110 val_main_v109 val_main_v108 val_main_v107 val_main_v106 val_main_v105 val_main_v104 val_main_v103 val_main_v102 val_main_v101 val_main_v100 val_main_v99 val_main_cst val_main_cst_20
  pointwise

/-- The angles of the keys' rotation. -/
theorem angle_k (n : Fin 4096) (d : Fin 64) : val_main_v140 (F := Ideal) (ix2 n d) = ((angR n.val d.val : ℝ) : EReal) := by
  refine Eq.trans ?_ (ang_word n.val d.val (by omega) (by omega))
  unfold val_main_v140 val_main_v139 val_main_v138 val_main_v137 val_main_v136 val_main_v135 val_main_v134 val_main_v133 val_main_v132 val_main_v131 val_main_v130 val_main_v129 val_main_cst_21 val_main_cst_22
  pointwise

variable (x0 : S8192x3072.Idx → EReal) (Z : ℕ → ℕ → ℝ)
  (hZ : ∀ (i : Fin 8192) (j : Fin 3072), x0 (ix2 i j) = ((Z i.val j.val : ℝ) : EReal))
include hZ

/-- The rotated queries, over the reals. -/
theorem query_at (b : Fin 2) (n : Fin 4096) (h : Fin 8) (d : Fin 128) :
    val_main_v127 (F := Ideal) x0 (ix4 b n h d) = ((qR Z b.val h.val n.val d : ℝ) : EReal) := by
  have hq : ∀ d : Fin 128, val_main_v98 (F := Ideal) x0 (ix4 b n h d) = ((Z (4096 * b.val + n.val) (1024 + 128 * h.val + d.val) : ℝ) : EReal) := fun d => by
    unfold val_main_v98 val_main_v6 val_main_v1 val_main_v0
    pointwise
    rw [hZ]
    congr 2 <;> simp only <;> ring
  unfold val_main_v127 val_main_v126 val_main_v125 val_main_v124 val_main_v123 val_main_v122 val_main_v121 val_main_v120 val_main_v119 val_main_v118 val_main_v117 val_main_v116 val_main_v115 val_main_v114 val_main_v113 val_main_v112 val_main_v111
  pointwise
  simp only [angle_q]
  rw [qR]
  unfold rotR
  by_cases hd : d.val < 64
  · simp only [dif_pos hd, if_pos hd, hq, Ideal.cos_coe, Ideal.sin_coe]
    rw [show 64 + d.val = d.val + 64 by omega]
    simp only [← EReal.coe_mul, ← EReal.coe_sub, add_assoc]
  · simp only [dif_neg hd, if_neg hd, hq, Ideal.cos_coe, Ideal.sin_coe]
    rw [show 64 + (d.val - 64) = d.val by omega]
    simp only [← EReal.coe_mul, ← EReal.coe_add, add_assoc]

/-- The rotated and scaled keys, over the reals. -/
theorem key_at (b : Fin 2) (n : Fin 4096) (h : Fin 8) (d : Fin 128) :
    val_main_v159 (F := Ideal) x0 (ix4 b n h d) = ((kR Z b.val h.val n.val d : ℝ) : EReal) := by
  have hq : ∀ d : Fin 128, val_main_v128 (F := Ideal) x0 (ix4 b n h d) = ((Z (4096 * b.val + n.val) (2048 + 128 * h.val + d.val) : ℝ) : EReal) := fun d => by
    unfold val_main_v128 val_main_v7 val_main_v1 val_main_v0
    pointwise
    rw [hZ]
    congr 2 <;> simp only <;> ring
  unfold val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_cst_23
  pointwise
  simp only [angle_k, bits_kScale]
  rw [kR]
  unfold rotR
  by_cases hd : d.val < 64
  · simp only [dif_pos hd, if_pos hd, hq, Ideal.cos_coe, Ideal.sin_coe]
    rw [show 64 + d.val = d.val + 64 by omega]
    simp only [← EReal.coe_mul, ← EReal.coe_sub, add_assoc]
  · simp only [dif_neg hd, if_neg hd, hq, Ideal.cos_coe, Ideal.sin_coe]
    rw [show 64 + (d.val - 64) = d.val by omega]
    simp only [← EReal.coe_mul, ← EReal.coe_add, add_assoc]

omit hZ in
/-- The values, over the reals. -/
theorem value_at (x1 : S8192x8192.Idx → EReal) (W : ℕ → ℕ → ℝ)
    (hW : ∀ (i : Fin 8192) (j : Fin 8192), j.val < 2048 → x1 (ix2 i j) = ((W i.val j.val : ℝ) : EReal))
    (b : Fin 2) (n : Fin 4096) (h : Fin 8) (e : Fin 256) :
    val_main_v160 (F := Ideal) x1 (ix4 b n h e) = ((vR W b.val h.val n.val e.val : ℝ) : EReal) := by
  unfold val_main_v160 val_main_v8 val_main_v3 val_main_v2
  pointwise
  rw [hW _ _ (by simp only; omega), vR]
  congr 2 <;> simp only <;> ring

omit hZ in
/-- The chunk of a frame, as the words divide. -/
theorem chunk_word : ∀ n : Fin 4096, IntOp.divsi ArithUnit.host (BitVec.ofNat 32 n.val) 64#32 = BitVec.ofNat 32 (n.val / 64) := by
  decide +kernel

omit hZ in
/-- The decay between two frames, nothing where the later chunk is not seen. -/
theorem decay_at (h : Fin 8) (n j : Fin 4096) :
    val_main_v195 (F := Ideal) (ix3 h n j) = ((dec (gam h.val) n.val j.val : ℝ) : EReal) := by
  unfold val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_cst_24 val_main_cst_25 val_main_cst_26 val_main_c_27 val_main_c_28 val_main_cst_29
  pointwise
  rw [chunk_word, chunk_word, seen_word _ _ (by omega) (by omega), dist_word _ _ (by omega) (by omega), log_gam _ h.isLt, exp_log_gam]
  unfold dec Scalar.select
  by_cases hc : j.val / 64 ≤ n.val / 64 <;> simp [hc]

/-- The retention, over the reals. -/
theorem ret_at (x1 : S8192x8192.Idx → EReal) (W : ℕ → ℕ → ℝ)
    (hW : ∀ (i : Fin 8192) (j : Fin 8192), j.val < 2048 → x1 (ix2 i j) = ((W i.val j.val : ℝ) : EReal))
    (b : Fin 2) (n : Fin 4096) (h : Fin 8) (e : Fin 256) :
    val_main_v201 (F := Ideal) x0 x1 (ix4 b n h e) = ((retR Z W b.val h.val n.val e.val : ℝ) : EReal) := by
  have hs : ∀ j : Fin 4096, val_main_v199 (F := Ideal) x0 (ix4 b h n j)
      = (((∑ d, qR Z b.val h.val n.val d * kR Z b.val h.val j.val d) * dec (gam h.val) n.val j.val : ℝ) : EReal) := fun j => by
    unfold val_main_v199 val_main_v198 val_main_v197
    pointwise
    rw [decay_at, val_main_v196_apply]
    have hl : ∀ k : Fin 128, lidx_main_v196 (ix4 b h n j) k = ix4 b n h k := fun k => by
      funext a; match a with | ⟨0, _⟩ => rfl | ⟨1, _⟩ => rfl | ⟨2, _⟩ => rfl | ⟨3, _⟩ => rfl
    have hr : ∀ k : Fin 128, ridx_main_v196 (ix4 b h n j) k = ix4 b j h k := fun k => by
      funext a; match a with | ⟨0, _⟩ => rfl | ⟨1, _⟩ => rfl | ⟨2, _⟩ => rfl | ⟨3, _⟩ => rfl
    simp only [hl, hr, query_at x0 Z hZ, key_at x0 Z hZ, ← EReal.coe_mul, sum_coe]
  rw [val_main_v201_apply, val_main_v200_apply]
  have hl : ∀ k : Fin 4096, lidx_main_v200 (idx_main_v201 (ix4 b n h e)) k = ix4 b k h e := fun k => by
    funext a; match a with | ⟨0, _⟩ => rfl | ⟨1, _⟩ => rfl | ⟨2, _⟩ => rfl | ⟨3, _⟩ => rfl
  have hr : ∀ k : Fin 4096, ridx_main_v200 (idx_main_v201 (ix4 b n h e)) k = ix4 b h n k := fun k => by
    funext a; match a with | ⟨0, _⟩ => rfl | ⟨1, _⟩ => rfl | ⟨2, _⟩ => rfl | ⟨3, _⟩ => rfl
  simp only [hl, hr, hs, value_at x1 W hW, ← EReal.coe_mul, sum_coe]
  rw [retR, ← Fin.sum_univ_eq_sum_range (fun j => (∑ d, qR Z b.val h.val n.val d * kR Z b.val h.val j d) * dec (gam h.val) n.val j * vR W b.val h.val j e.val)]
  congr 1
  exact Finset.sum_congr rfl fun j _ => mul_comm _ _
end Cert.ReferenceIdeal.Read
-- ==== Proof.Mix.Scalar.lean ====
module

public import Idealize.ShloMosaic.Lib.Pipeline.ValueKit
public import Idealize.ShloMosaic.Lib.IdealHost

@[expose] public section

/-! # Numbers the two programs spell as bit patterns, and the logistic function as a hyperbolic tangent -/

namespace Cert.Mix

open Idealize.ShloMosaic

theorem bits_half : Ideal.ofBits .f32 0x3F000000#32 = ((1 / 2 : ℝ) : EReal) := by
  simp [Ideal.ofBits, Ideal.ieee, -EReal.coe_mul]; norm_num

/-- `tanh (x / 2) / 2 + 1 / 2` is the logistic function, at the infinities too. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1]
    have ha := Real.exp_pos (1 / 2 * r)
    have hb := Real.exp_pos (-(1 / 2 * r))
    generalize Real.exp (1 / 2 * r) = a at *
    generalize Real.exp (-(1 / 2 * r)) = b at *
    have hab : (1 + b * b) ≠ 0 := by positivity
    have hab' : (a + b) ≠ 0 := by positivity
    field_simp
    nlinarith

end Cert.Mix
-- ==== Proof.Mix.RefRow.lean ====
module

public import proofs.«01_k».proof.Proof.Mix.RefRet
public import proofs.«01_k».proof.Proof.Mix.Scalar

@[expose] public section

set_option maxRecDepth 16384

namespace Cert.Mix
open Idealize.ShloMosaic

/-- The logistic function written out. -/
theorem tsig_eq (x : EReal) : Ideal.div 1 (1 + Ideal.exp (-x)) = tsig x := by
  unfold tsig
  rw [bits_half, half_tanh]
  rfl
end Cert.Mix

namespace Cert.ReferenceIdeal.Read
open Idealize.ShloMosaic Idealize.ShloMosaic.TcCoe Idealize.ShloMosaic.Tactic
open Cert.Mix Cert.ReferenceIdeal.Gen Finset

variable (x0 : S8192x3072.Idx → EReal) (x1 : S8192x8192.Idx → EReal) (x2 : S8192x2048.Idx → EReal) (x3 : S1x2048.Idx → EReal)
  (x4 : S4x256x256.Idx → EReal) (x5 : S1x1024.Idx → EReal) (x6 : S1024x2048.Idx → EReal) (x7 x8 : S2048x2048.Idx → EReal) (x9 : S1x2048.Idx → EReal)

/-- The row of frame `n` of sequence `b`. -/
abbrev rowOf (b : Fin 2) (n : Fin 4096) : Fin 8192 := ⟨b.val * 4096 + n.val, by omega⟩

/-- The pooled groups through their projections. -/
theorem pooled_at (b : Fin 2) (n : Fin 4096) (g : Fin 4) (e : Fin 256) :
    val_main_v95 (F := Ideal) x0 x4 x5 (ix3 b n ⟨256 * g.val + e.val, by omega⟩)
      = poolMix (fun d => val_main_v88 (F := Ideal) x0 (ix3 b n ⟨256 * g.val + d.val, by omega⟩)) (fun d e => x4 (ix3 g d e))
        (x5 (ix2 0 ⟨256 * g.val + e.val, by omega⟩)) e := by
  unfold val_main_v95 val_main_v94 val_main_v93 val_main_v92 val_main_v91 val_main_v90 val_main_v89 poolMix
  pointwise
  congr 1
  refine Finset.sum_congr rfl fun d _ => ?_
  rw [mul_comm]
  congr 3
  refine Fin.ext ?_
  simp only
  ring

/-- The gated, normalised heads. -/
theorem heads_at (b : Fin 2) (n : Fin 4096) (h : Fin 8) (e : Fin 256) :
    val_main_v225 (F := Ideal) x0 x1 x3 (ix3 b n ⟨256 * h.val + e.val, by omega⟩)
      = gated (x1 (ix2 (rowOf b n) ⟨2048 + (256 * h.val + e.val), by omega⟩)) (fun e => val_main_v201 (F := Ideal) x0 x1 (ix4 b n h e))
        (x3 (ix2 0 ⟨256 * h.val + e.val, by omega⟩)) e := by
  unfold gated groupNorm
  rw [← tsig_eq]
  unfold val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_call6_v5 val_main_call6_v4 val_main_call6_v3 val_main_call6_v2 val_main_call6_v1 val_main_call6_v0 val_main_call6_cst val_main_call6_cst_0 val_main_cst_30 val_main_cst_31 val_main_cst_32 val_main_cst_33 val_main_cst_34 val_main_v9 val_main_v3 val_main_v2
  pointwise

/-- The sum row. -/
theorem row_at (b : Fin 2) (n : Fin 4096) (k : Fin 2048) :
    val_main_v245 (F := Ideal) x0 x1 x2 x3 x4 x5 x6 x7 x8 (ix3 b n k)
      = h1Row (fun j => val_main_v95 (F := Ideal) x0 x4 x5 (ix3 b n j)) (fun j => val_main_v225 (F := Ideal) x0 x1 x3 (ix3 b n j))
        (fun k => x1 (ix2 (rowOf b n) ⟨4096 + k.val, by omega⟩)) (fun k => x1 (ix2 (rowOf b n) ⟨6144 + k.val, by omega⟩))
        (fun k => x2 (ix2 (rowOf b n) k)) (fun j k => x6 (ix2 j k)) (fun j k => x7 (ix2 j k)) (fun j k => x8 (ix2 j k)) k := by
  unfold h1Row
  simp only [← tsig_eq]
  unfold val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_cst_35 val_main_cst_36 val_main_cst_37 val_main_cst_38 val_main_v97 val_main_v96 val_main_v11 val_main_v10 val_main_v4 val_main_v3 val_main_v2
  pointwise

/-- The normalised sum row. -/
theorem norm_at (b : Fin 2) (n : Fin 4096) (k : Fin 2048) :
    val_main_v258 (F := Ideal) x0 x1 x2 x3 x4 x5 x6 x7 x8 x9 (ix3 b n k)
      = rmsRow (fun k => val_main_v245 (F := Ideal) x0 x1 x2 x3 x4 x5 x6 x7 x8 (ix3 b n k)) (fun k => x9 (ix2 0 k)) k := by
  unfold rmsRow
  unfold val_main_v258 val_main_v257 val_main_v256 val_main_v255 val_main_v254 val_main_v253 val_main_v252 val_main_v251 val_main_v250 val_main_v249 val_main_v248 val_main_v247 val_main_v246 val_main_cst_39 val_main_cst_40 val_main_cst_41
  pointwise
end Cert.ReferenceIdeal.Read
-- ==== Proof.Mix.Equal.lean ====
module

public import proofs.«01_k».proof.Proof.Mix.Finite
public import proofs.«01_k».proof.Proof.Mix.Block
public import proofs.«01_k».proof.Proof.Mix.RefRow
public import proofs.«01_k».proof.Proof.Gen.KernelIdeal.Value

@[expose] public section

set_option maxRecDepth 16384

namespace Cert.KernelIdeal.Gen
open Idealize.ShloMosaic Idealize.ShloMosaic.TcCoe Idealize.ShloMosaic.Tactic Idealize.SL.Sem Idealize.ShloMosaic.Pipeline
open Cert.Mix Cert.ReferenceIdeal.Read

variable {m : (ℓ : Loc nD τ sig) → Buf (Elt Ideal) ℓ} {c : Dev nD} {Z W : ℕ → ℕ → ℝ} (F : Finite m c Z W) (t : Fin cfg0.N)

/-- The state before the block of point `t`. -/
noncomputable def before (Z W : ℕ → ℕ → ℝ) (t : ℕ) (h : Fin 8) (d : Fin 128) (e : Fin 256) : EReal :=
  ((st (gam h.val) (fun j => kR Z (t / 16) h.val j d) (fun j => vR W (t / 16) h.val j e.val) (t % 16) : ℝ) : EReal)

include F

/-- What point `t` writes, from the state before its block. -/
theorem outs_eq (r : Fin 256) (n : Fin 2048) :
    ((outsAt0 m c t.val t.isLt).1 (ix2 r n), (outsAt0 m c t.val t.isLt).2.1 (ix2 r n))
      = (h1Blk m c t (before Z W t.val) r n, rmsRow (h1Blk m c t (before Z W t.val) r) (fun k => iblk m c 20 t (ix2 0 k)) n) := by
  by_cases h0 : t.val % 16 = 0
  · have e : before Z W t.val = fun _ _ _ => 0 := by
      funext h d e
      unfold before
      rw [h0, st_zero]; rfl
    rw [e]
    exact blocks_A m c t h0 r n
  · have e : before Z W t.val = fun h d e => (outsAt0 m c (t.val - 1) (by have := t.isLt; omega)).2.2 (ix3 h d e) := by
      funext h d e
      rw [state_coe F h d e]
      unfold before
      rw [show (t.val - 1) / 16 = t.val / 16 by omega, show (t.val - 1) % 16 + 1 = t.val % 16 by omega]
    rw [e]
    exact blocks_B m c t h0 r n

/-- The sequence and the frame of a row. -/
abbrev seqOf (t : Fin cfg0.N) : Fin 2 := ⟨t.val / 16, by have := lt32 t; omega⟩
abbrev frameOf (t : Fin cfg0.N) (r : Fin 256) : Fin 4096 := ⟨256 * (t.val % 16) + r.val, by omega⟩

omit F in
theorem rowOf_eq (r : Fin 256) : rowOf (seqOf t) (frameOf t r) = ⟨256 * t.val + r.val, by have := lt32 t; omega⟩ :=
  Fin.ext (by show t.val / 16 * 4096 + (256 * (t.val % 16) + r.val) = 256 * t.val + r.val; omega)

theorem pool_eq (r : Fin 256) (j : Fin 1024) :
    pEl m c t r ⟨j.val / 256, by omega⟩ ⟨j.val % 256, by omega⟩
      = val_main_v95 (F := Ideal) (m ((c : Thread nD τ).loc main_arg0)) (m ((c : Thread nD τ).loc main_arg4)) (m ((c : Thread nD τ).loc main_arg5))
        (ix3 (seqOf t) (frameOf t r) j) := by
  obtain ⟨g, e, rfl⟩ : ∃ (g : Fin 4) (e : Fin 256), j = ⟨256 * g.val + e.val, by omega⟩ :=
    ⟨⟨j.val / 256, by omega⟩, ⟨j.val % 256, by omega⟩, Fin.ext (by show j.val = 256 * (j.val / 256) + j.val % 256; omega)⟩
  rw [show (⟨(256 * g.val + e.val) / 256, by omega⟩ : Fin 4) = g from Fin.ext (by simp only; omega),
    show (⟨(256 * g.val + e.val) % 256, by omega⟩ : Fin 256) = e from Fin.ext (by simp only; omega)]
  rw [pooled_at]
  unfold pEl poolMix
  simp only [pooledK_coe t F, blk15, blk16]
  simp only [pool_at _ Z F.z]

theorem head_eq (r : Fin 256) (j : Fin 2048) :
    oEl m c t (before Z W t.val) r ⟨j.val / 256, by omega⟩ ⟨j.val % 256, by omega⟩
      = val_main_v225 (F := Ideal) (m ((c : Thread nD τ).loc main_arg0)) (m ((c : Thread nD τ).loc main_arg1)) (m ((c : Thread nD τ).loc main_arg3))
        (ix3 (seqOf t) (frameOf t r) j) := by
  obtain ⟨h, e, rfl⟩ : ∃ (g : Fin 8) (e : Fin 256), j = ⟨256 * g.val + e.val, by omega⟩ :=
    ⟨⟨j.val / 256, by omega⟩, ⟨j.val % 256, by omega⟩, Fin.ext (by show j.val = 256 * (j.val / 256) + j.val % 256; omega)⟩
  rw [show (⟨(256 * h.val + e.val) / 256, by omega⟩ : Fin 8) = h from Fin.ext (by simp only; omega),
    show (⟨(256 * h.val + e.val) % 256, by omega⟩ : Fin 256) = e from Fin.ext (by simp only; omega)]
  rw [heads_at, rowOf_eq]
  unfold oEl
  rw [blk3, blk14, show retRow m c t (before Z W t.val) h r = _ from
    funext fun e => retRow_coe t F (before Z W t.val) (fun _ _ _ => rfl) h r e]
  simp only [ret_at _ Z F.z _ W F.w]

theorem sum_eq (r : Fin 256) :
    h1Blk m c t (before Z W t.val) r = fun k => val_main_v245 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (ix3 (seqOf t) (frameOf t r) k) := by
  funext k
  rw [row_at, rowOf_eq]
  unfold h1Blk
  simp only [pool_eq F t r, head_eq F t r, blk4, blk5, blk8, blk17, blk18, blk19, zero_add]

theorem G21_eq (i : S8192x2048.Idx) : Value.G21 m c i
    = val_main_v259 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) i := by
  have h0 : (i 0).val < 8192 := (i 0).isLt
  have h1 : (i 1).val < 2048 := (i 1).isLt
  obtain ⟨t, ht⟩ : ∃ t : Fin cfg0.N, t.val = Value.pt21Of i := ⟨⟨Value.pt21Of i, by show 1 * ((i 0).val / 256 - 0) + 1 * ((i 1).val / 2048 - 0) < 32; omega⟩, rfl⟩
  have hp : Value.pt21Of i < cfg0.N := ht ▸ t.isLt
  have ht' : t.val = (i 0).val / 256 := by
    rw [ht]; show 1 * ((i 0).val / 256 - 0) + 1 * ((i 1).val / 2048 - 0) = _; omega
  unfold Value.G21
  rw [dif_pos hp]
  rw [Value.fold0_congr m c _ _ _ (by rw [Nat.zero_add]; exact t.isLt) ht.symm, ← Value.outsAt0_sweep m c t.val t.isLt]
  rw [show Value.loc21Of i = ix2 ⟨(i 0).val % 256, by omega⟩ ⟨(i 1).val, h1⟩ from funext fun a => Fin.ext (by
    match a with
    | ⟨0, _⟩ => rfl
    | ⟨1, _⟩ => exact Nat.mod_eq_of_lt h1)]
  refine (Prod.ext_iff.1 (outs_eq F t _ _)).1.trans ?_
  rw [sum_eq F, val_main_v259_apply]
  simp only
  congr 1
  funext a
  refine Fin.ext ?_
  match a with
  | ⟨0, _⟩ => show t.val / 16 = ((i 0).val * 2048 + (i 1).val) / 8388608; omega
  | ⟨1, _⟩ => show 256 * (t.val % 16) + (i 0).val % 256 = ((i 0).val * 2048 + (i 1).val) / 2048 % 4096; omega
  | ⟨2, _⟩ => show (i 1).val = ((i 0).val * 2048 + (i 1).val) % 2048; omega

theorem G22_eq (i : S8192x2048.Idx) : Value.G22 m c i
    = val_main_v261 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) i := by
  have h0 : (i 0).val < 8192 := (i 0).isLt
  have h1 : (i 1).val < 2048 := (i 1).isLt
  obtain ⟨t, ht⟩ : ∃ t : Fin cfg0.N, t.val = Value.pt22Of i := ⟨⟨Value.pt22Of i, by show 1 * ((i 0).val / 256 - 0) + 1 * ((i 1).val / 2048 - 0) < 32; omega⟩, rfl⟩
  have hp : Value.pt22Of i < cfg0.N := ht ▸ t.isLt
  have ht' : t.val = (i 0).val / 256 := by
    rw [ht]; show 1 * ((i 0).val / 256 - 0) + 1 * ((i 1).val / 2048 - 0) = _; omega
  unfold Value.G22
  rw [dif_pos hp]
  rw [Value.fold0_congr m c _ _ _ (by rw [Nat.zero_add]; exact t.isLt) ht.symm, ← Value.outsAt0_sweep m c t.val t.isLt]
  rw [show Value.loc22Of i = ix2 ⟨(i 0).val % 256, by omega⟩ ⟨(i 1).val, h1⟩ from funext fun a => Fin.ext (by
    match a with
    | ⟨0, _⟩ => rfl
    | ⟨1, _⟩ => exact Nat.mod_eq_of_lt h1)]
  refine (Prod.ext_iff.1 (outs_eq F t _ _)).2.trans ?_
  rw [sum_eq F, val_main_v261_apply]
  simp only [blk20]
  refine (norm_at _ _ _ _ _ _ _ _ _ _ _ _ _).symm.trans ?_
  refine congrArg (val_main_v258 (F := Ideal) _ _ _ _ _ _ _ _ _ _) ?_
  funext a
  refine Fin.ext ?_
  match a with
  | ⟨0, _⟩ => show t.val / 16 = ((i 0).val * 2048 + (i 1).val) / 8388608; omega
  | ⟨1, _⟩ => show 256 * (t.val % 16) + (i 0).val % 256 = ((i 0).val * 2048 + (i 1).val) / 2048 % 4096; omega
  | ⟨2, _⟩ => show (i 1).val = ((i 0).val * 2048 + (i 1).val) % 2048; omega
end Cert.KernelIdeal.Gen
-- ==== Proof.Mix.Pre.lean ====
module

public import proofs.«01_k».proof.Proof.Mix.Equal
public import proofs.«01_k».proof.Proof.Mix.Frames
public import Idealize.ShloMosaic.Lib.ReduceAll

@[expose] public section

set_option maxRecDepth 16384

namespace Cert.Mix
open Idealize.ShloMosaic Idealize.ShloMosaic.TcCoe Idealize.ShloMosaic.Tactic Idealize.SL.Sem

theorem top_word : Ideal.ofBits .f32 0x7F800000#32 = ⊤ := by
  simp [Ideal.ofBits, Ideal.ieee]

/-- A value whose magnitude is below infinity is a real number. -/
theorem real_of_abs (x : EReal) (h : Ideal.cmp .olt (max x (-x)) ⊤ = 1#1) : x = ((x.toReal : ℝ) : EReal) := by
  have hl : max x (-x) < ⊤ := by
    by_contra hn
    simp [Ideal.cmp, hn] at h
  refine (EReal.coe_toReal ?_ ?_).symm
  · rintro rfl; simp at hl
  · rintro rfl; simp at hl

/-- The precondition gives the two real matrices. -/
theorem finite_of_pre (m : (ℓ : Loc Cert.KernelIdeal.nD Cert.KernelIdeal.τ Cert.KernelIdeal.sig) → Buf (Elt Ideal) ℓ)
    (h : @Pre_KernelIdeal_finite pre_facts m) (c : Dev Cert.KernelIdeal.nD) :
    ∃ Z W, Cert.KernelIdeal.Gen.Finite m c Z W := by
  letI := pre_facts
  haveI : Subsingleton Cert.Pre_finite.S_.Idx := ⟨fun a b => funext fun i => i.elim0⟩
  have e := congrFun (h c) (fun i => i.elim0)
  simp only [Cert.Pre_finite.fn, andi_apply] at e
  obtain ⟨e0, e1⟩ := IntOp.andi_eq_one.1 e
  refine ⟨fun i j => if hb : i < 8192 ∧ j < 3072 then
      EReal.toReal (m ((c.tc : Thread Cert.KernelIdeal.nD Cert.KernelIdeal.τ).loc Cert.KernelIdeal.main_arg0) (ix2 ⟨i, hb.1⟩ ⟨j, hb.2⟩)) else 0,
    fun i j => if hb : i < 8192 ∧ j < 8192 then
      EReal.toReal (m ((c.tc : Thread Cert.KernelIdeal.nD Cert.KernelIdeal.τ).loc Cert.KernelIdeal.main_arg1) (ix2 ⟨i, hb.1⟩ ⟨j, hb.2⟩)) else 0, ?_, ?_⟩
  · intro i j
    rw [dif_pos ⟨i.isLt, j.isLt⟩]
    have e2 := Host.reduce_andi_all _ _ _ _ _ e0 (ix2 i j)
    refine real_of_abs _ ?_
    rw [← top_word]
    exact e2
  · intro i j hj
    rw [dif_pos ⟨i.isLt, j.isLt⟩]
    have e2 := Host.reduce_andi_all _ _ _ _ _ e1 (ix2 i ⟨j.val, hj⟩)
    refine real_of_abs _ ?_
    rw [← top_word]
    refine Eq.trans (congrArg (fun x : EReal => Ideal.cmp .olt (max x (-x)) (Ideal.ofBits .f32 0x7F800000#32)) (congrArg
      (m ((c.tc : Thread Cert.KernelIdeal.nD Cert.KernelIdeal.τ).loc Cert.KernelIdeal.main_arg1)) (?_ : (ix2 i j : Cert.Pre_finite.S8192x8192.Idx) = _))) e2
    funext a
    refine Fin.ext ?_
    match a with
    | ⟨0, _⟩ => exact (Nat.zero_add _).symm
    | ⟨1, _⟩ => exact (Nat.zero_add _).symm
end Cert.Mix
-- ==== Proof.Mix.Down.lean ====
module

public import proofs.«01_k».proof.Proof.Gen.Kernel2Ideal.Value
public import proofs.«01_k».proof.Proof.Gen.Reference2Ideal.Read
public import proofs.«01_k».proof.Proof.Mix.Spec
public import Idealize.ShloMosaic.Lib.Pipeline.ValueKit
public import Idealize.ShloMosaic.Lib.Pipeline.ReadBack
public import Idealize.ShloMosaic.Lib.ValueIdx
public import Idealize.ShloMosaic.Lib.StableHlo.RunRead

@[expose] public section

set_option maxRecDepth 16384

/-! The down projection, the residual sum and the layer's last normalisation. -/

namespace Cert.Kernel2Ideal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)

theorem lt16 (t : Fin cfg0.N) : t.val < 16 := t.isLt

theorem idx0 : ∀ t : Fin cfg0.N, win0_0.index t 0 = t.val ∧ win0_0.index t 1 = 0 := by decide +kernel
theorem blk0 (r : Fin 512) (d : Fin 5632) : iblk m c 0 t (ix2 r d)
    = m ((c : Thread nD τ).loc main_arg0) (ix2 ⟨512 * t.val + r.val, by have := lt16 t; omega⟩ d) := by
  blk_ext [iblk, V, (idx0 t).1, (idx0 t).2]

theorem idx1 : ∀ t : Fin cfg0.N, win0_1.index t 0 = 0 ∧ win0_1.index t 1 = 0 := by decide +kernel
theorem blk1 (r : Fin 5632) (d : Fin 2048) : iblk m c 1 t (ix2 r d)
    = m ((c : Thread nD τ).loc main_arg1) (ix2 r d) := by
  blk_ext [iblk, V, (idx1 t).1, (idx1 t).2]

theorem idx2 : ∀ t : Fin cfg0.N, win0_2.index t 0 = t.val ∧ win0_2.index t 1 = 0 := by decide +kernel
theorem blk2 (r : Fin 512) (d : Fin 2048) : iblk m c 2 t (ix2 r d)
    = m ((c : Thread nD τ).loc main_arg2) (ix2 ⟨512 * t.val + r.val, by have := lt16 t; omega⟩ d) := by
  blk_ext [iblk, V, (idx2 t).1, (idx2 t).2]

theorem idx3 : ∀ t : Fin cfg0.N, win0_3.index t 0 = 0 ∧ win0_3.index t 1 = 0 := by decide +kernel
theorem gain_at (d : Fin 2048) : V m c main_v0 (ix2 0 d) = m ((c : Thread nD τ).loc main_arg3) (ix1 d) := by
  unfold V
  simp only [hostOps0, List.flatten_cons, List.flatten_nil, List.append_nil, List.cons_append, List.nil_append]
  after_reads_simp
  pointwise
theorem blk3 (d : Fin 2048) : iblk m c 3 t (ix2 0 d) = m ((c : Thread nD τ).loc main_arg3) (ix1 d) := by
  refine Eq.trans ?_ (gain_at m c d)
  blk_ext [iblk, (idx3 t).1, (idx3 t).2]

/-- The row of sums that is normalised, from a row of the activations and of the residual stream. -/
noncomputable def downRow (a : Fin 5632 → EReal) (w : Fin 5632 → Fin 2048 → EReal) (h : Fin 2048 → EReal) (k : Fin 2048) : EReal :=
  h k + ∑ j, a j * w j k

/-- What a grid point writes, at an element. -/
theorem out_at (r : Fin 512) (n : Fin 2048) :
    outsAt0 m c t (ix2 r n)
      = rmsRow (downRow (fun j => iblk m c 0 t (ix2 r j)) (fun j k => iblk m c 1 t (ix2 j k)) (fun k => iblk m c 2 t (ix2 r k)))
        (fun k => iblk m c 3 t (ix2 0 k)) n := by
  unfold outsAt0
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  open_payloads
  unfold rmsRow downRow
  pointwise

/-- The result, from the argument arrays. -/
noncomputable def downOut (x0 : S8192x5632.Idx → EReal) (x1 : S5632x2048.Idx → EReal) (x2 : S8192x2048.Idx → EReal)
    (x3 : S2048.Idx → EReal) : S8192x2048.Idx → EReal := fun i =>
  rmsRow (downRow (fun j => x0 (ix2 (i 0) j)) (fun j k => x1 (ix2 j k)) (fun k => x2 (ix2 (i 0) k))) (fun k => x3 (ix1 k)) (i 1)

/-- The result from the arrays of a memory. -/
noncomputable def outArr : S8192x2048.Idx → EReal :=
  downOut (m ((c : Thread nD τ).loc main_arg0)) (m ((c : Thread nD τ).loc main_arg1)) (m ((c : Thread nD τ).loc main_arg2))
    (m ((c : Thread nD τ).loc main_arg3))

/-- What a point writes, from the argument arrays. -/
theorem block_at (r : Fin 512) (n : Fin 2048) :
    outsAt0 m c t (ix2 r n) = outArr m c (ix2 ⟨512 * t.val + r.val, by have := lt16 t; omega⟩ n) := by
  rw [out_at]
  simp only [blk0, blk1, blk2, blk3]
  rfl

theorem idx4 : ∀ t : Fin cfg0.N, win0_4.index t 0 = t.val ∧ win0_4.index t 1 = 0 := by decide +kernel

/-- What a point writes back is its block of the result. -/
theorem flushed4_eq : (dats m 0 c).flushed 4 t = ((cfg0.win 4).blk t).view.read (Elt Ideal) (outArr m c) := by
  rw [Value.flushed4]
  funext y
  have h := lt16 t
  have hy0 : (y 0).val < 512 := (y 0).isLt
  have hy1 : (y 1).val < 2048 := (y 1).isLt
  obtain ⟨e0, e1⟩ := idx4 t
  have hb : ((cfg0.win 4).blk t).view.emb y = ix2 ⟨512 * t.val + (y 0).val, by omega⟩ ⟨(y 1).val, hy1⟩ := by
    funext a; apply Fin.ext
    match a with
    | ⟨0, _⟩ => show win0_4.index t (0 : Fin 2) * 512 + 1 * (y 0).val = 512 * t.val + (y 0).val; omega
    | ⟨1, _⟩ => show win0_4.index t (1 : Fin 2) * 2048 + 1 * (y 1).val = (y 1).val; omega
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  show outsAt0 m c t ((cfg0.win 4).xinj (grid0.coords t) y) = outArr m c (((cfg0.win 4).blk t).view.emb y)
  rw [hb, hl]
  exact block_at m c t _ _

/-- Every element of the result is in some point's block. -/
theorem covered4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 512, by show (i 0).val / 512 < 16; omega⟩
  obtain ⟨e0, e1⟩ := idx4 t
  have hb : ((cfg0.win 4).blk t).view.emb (ix2 ⟨(i 0).val % 512, by omega⟩ ⟨(i 1).val, h1⟩ : S512x2048.Idx) = i := by
    funext a; apply Fin.ext
    match a with
    | ⟨0, _⟩ => show win0_4.index t (0 : Fin 2) * 512 + 1 * ((i 0).val % 512) = (i 0).val; rw [e0]; show (i 0).val / 512 * 512 + _ = _; omega
    | ⟨1, _⟩ => show win0_4.index t (1 : Fin 2) * 2048 + 1 * (i 1).val = (i 1).val; omega
  refine ⟨t, flush0_4 _, ?_⟩
  have h := ((cfg0.win 4).blk t).view.emb_mem_set (ix2 ⟨(i 0).val % 512, by omega⟩ ⟨(i 1).val, h1⟩ : S512x2048.Idx)
  rwa [hb] at h

/-- The result after the run. -/
theorem final4 : (dats m 0 c).arrAt 4 cfg0.N = outArr m c :=
  (dats m 0 c).arrAt_eq_of_cover 4 (outArr m c) (fun t _ => flushed4_eq m c t) covered4
end Cert.Kernel2Ideal.Gen

namespace Cert.Reference2Ideal.Read
open Idealize.ShloMosaic Idealize.ShloMosaic.TcCoe Idealize.ShloMosaic.Tactic
open Cert.Mix Cert.Reference2Ideal.Gen Finset

variable (x0 : S8192x5632.Idx → EReal) (x1 : S5632x2048.Idx → EReal) (x2 : S8192x2048.Idx → EReal) (x3 : S2048.Idx → EReal)

/-- The reference's result at an element. -/
theorem out_at (i : S8192x2048.Idx) : val_main_v19 (F := Ideal) x0 x1 x2 x3 i = Cert.Kernel2Ideal.Gen.downOut x0 x1 x2 x3 i := by
  obtain ⟨r, n, rfl⟩ : ∃ (r : Fin 8192) (n : Fin 2048), i = ix2 r n := ⟨i 0, i 1, by funext a; fin_cases a <;> rfl⟩
  unfold Cert.Kernel2Ideal.Gen.downOut rmsRow Cert.Kernel2Ideal.Gen.downRow
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
end Cert.Reference2Ideal.Read
-- ==== Proof.Mix.Up.lean ====
module

public import proofs.«01_k».proof.Proof.Gen.Kernel3Ideal.Value
public import proofs.«01_k».proof.Proof.Mix.Spec
public import Idealize.ShloMosaic.Lib.Pipeline.ValueKit
public import Idealize.ShloMosaic.Lib.Pipeline.ReadBack
public import Idealize.ShloMosaic.Lib.ValueIdx

@[expose] public section

set_option maxRecDepth 16384

/-! The up-projection, its causal convolution and its gate: what a grid point writes. -/

namespace Cert.Kernel3Ideal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)

theorem lt44 (t : Fin cfg0.N) : t.val < 44 := t.isLt

theorem idx0 : ∀ t : Fin cfg0.N, win0_0.index t 0 = t.val % 4 ∧ win0_0.index t 1 = 0 := by decide +kernel
theorem blk0 (r : Fin 2048) (d : Fin 2048) : iblk m c 0 t (ix2 r d)
    = m ((c : Thread nD τ).loc main_arg0) (ix2 ⟨2048 * (t.val % 4) + r.val, by omega⟩ d) := by
  blk_ext [iblk, V, (idx0 t).1, (idx0 t).2]

theorem idx1 : ∀ t : Fin cfg0.N, win0_1.index t 0 = 0 ∧ win0_1.index t 1 = t.val / 4 := by decide +kernel
theorem blk1 (r : Fin 2048) (d : Fin 512) : iblk m c 1 t (ix2 r d)
    = m ((c : Thread nD τ).loc main_arg1) (ix2 r ⟨512 * (t.val / 4) + d.val, by have := lt44 t; omega⟩) := by
  blk_ext [iblk, V, (idx1 t).1, (idx1 t).2]

theorem idx2 : ∀ t : Fin cfg0.N, win0_2.index t 0 = 0 ∧ win0_2.index t 1 = 11 + t.val / 4 := by decide +kernel
theorem blk2 (r : Fin 2048) (d : Fin 512) : iblk m c 2 t (ix2 r d)
    = m ((c : Thread nD τ).loc main_arg1) (ix2 r ⟨5632 + (512 * (t.val / 4) + d.val), by have := lt44 t; omega⟩) := by
  blk_ext [iblk, V, (idx2 t).1, (idx2 t).2]

theorem idx3 : ∀ t : Fin cfg0.N, win0_3.index t 0 = 0 ∧ win0_3.index t 1 = t.val / 4 := by decide +kernel
theorem blk3 (r : Fin 3) (d : Fin 512) : iblk m c 3 t (ix2 r d)
    = m ((c : Thread nD τ).loc main_arg2) (ix2 r ⟨512 * (t.val / 4) + d.val, by have := lt44 t; omega⟩) := by
  blk_ext [iblk, V, (idx3 t).1, (idx3 t).2]

theorem idx4 : ∀ t : Fin cfg0.N, win0_4.index t 0 = 0 ∧ win0_4.index t 1 = t.val / 4 := by decide +kernel
theorem blk4 (d : Fin 512) : iblk m c 4 t (ix2 0 d)
    = m ((c : Thread nD τ).loc main_arg3) (ix2 0 ⟨512 * (t.val / 4) + d.val, by have := lt44 t; omega⟩) := by
  blk_ext [iblk, V, (idx4 t).1, (idx4 t).2]

theorem idx5 : ∀ t : Fin cfg0.N, win0_5.index t 0 = t.val ∧ win0_5.index t 1 = 0 := by decide +kernel
theorem blk5 (r : Fin 128) (d : Fin 2048) : iblk m c 5 t (ix2 r d)
    = m ((c : Thread nD τ).loc main_arg4) (ix2 ⟨128 * t.val + r.val, by have := lt44 t; omega⟩ d) := by
  blk_ext [iblk, V, (idx5 t).1, (idx5 t).2]

/-- A row against a column. -/
noncomputable def dotRow (a w : Fin 2048 → EReal) : EReal := ∑ k, a k * w k

/-- The gate's and the other half's columns at a row of a block. -/
noncomputable def gateB (r : Fin 2048) (n : Fin 512) : EReal := dotRow (fun k => iblk m c 0 t (ix2 r k)) (fun k => iblk m c 1 t (ix2 k n))
noncomputable def upB (r : Fin 2048) (n : Fin 512) : EReal := dotRow (fun k => iblk m c 0 t (ix2 r k)) (fun k => iblk m c 2 t (ix2 k n))

/-- The convolution and the gate at one element, from the gate's entry and the two before it. -/
noncomputable def gluEl (w0 w1 w2 b g2 g1 g u : EReal) : EReal :=
  (w0 * g2 + w1 * g1 + w2 * g + b) * tsig (w0 * g2 + w1 * g1 + w2 * g + b) * u

/-- The last rows of the gate are what the point leaves for the next. -/
theorem carry_A (h0 : t.val % 2 = 0) (k : Fin 8) (n : Fin 512) :
    (outsAt0 m c t.val t.isLt).2.2 (ix2 k n) = gateB m c t ⟨1024 + (1016 + k.val), by omega⟩ n := by
  rw [outsAt0_A m c t h0]
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  open_payloads
  unfold gateB dotRow
  pointwise
theorem carry_B (h0 : ¬t.val % 2 = 0) (k : Fin 8) (n : Fin 512) :
    (outsAt0 m c t.val t.isLt).2.2 (ix2 k n) = gateB m c t ⟨1024 + (1016 + k.val), by omega⟩ n := by
  rw [outsAt0_B m c t h0]
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  open_payloads
  unfold gateB dotRow
  pointwise
theorem weight_A (h0 : t.val % 2 = 0) (r : Fin 128) (n : Fin 2048) :
    (outsAt0 m c t.val t.isLt).2.1 (ix2 r n) = iblk m c 5 t (ix2 r n) := by
  rw [outsAt0_A m c t h0]
  dsimp only
  frame_open
  simp (disch := decide) only [View.read_writes_junk_eq_canon, View.canon_cons_unit_lit',
        View.ld_unit_lit', View.readCov_unit_lit', View.readCov_cons_unit_lit', View.readAt_eq_ld,
        Memref.IsWhole.read_unread]
  open_payloads
  pointwise
theorem weight_B (h0 : ¬t.val % 2 = 0) (r : Fin 128) (n : Fin 2048) :
    (outsAt0 m c t.val t.isLt).2.1 (ix2 r n) = iblk m c 5 t (ix2 r n) := by
  rw [outsAt0_B m c t h0]
  dsimp only
  frame_open
  simp (disch := decide) only [View.read_writes_junk_eq_canon, View.canon_cons_unit_lit',
        View.ld_unit_lit', View.readCov_unit_lit', View.readCov_cons_unit_lit', View.readAt_eq_ld,
        Memref.IsWhole.read_unread]
  open_payloads
  pointwise

end Cert.Kernel3Ideal.Gen
-- ==== Proof.Mix.UpAct.lean ====
module

public import proofs.«01_k».proof.Proof.Mix.Up
public import Idealize.ShloMosaic.Lib.KernelVsHost

@[expose] public section

set_option maxRecDepth 16384

/-! The up-projection, its causal convolution and its gate: the activations a grid point writes. -/

namespace Cert.Kernel3Ideal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)

/-- An element of the convolved and gated columns, inside a run of 1024 rows whose gate is `g`, after a run that ends with `p2`, `p1`. -/
noncomputable def subEl (w0 w1 w2 b p2 p1 : EReal) (g : Fin 1024 → EReal) (u : EReal) (r : Fin 1024) : EReal :=
  gluEl w0 w1 w2 b (if r.val = 0 then p2 else if r.val = 1 then p1 else g ⟨r.val - 2, by omega⟩)
    (if r.val = 0 then p1 else g ⟨r.val - 1, by omega⟩) (g r) u

/-- The convolution over the run. -/
noncomputable def cv (C0 C1 C2 B P2 P1 : FVec Ideal S1x512 .f32) (G : FVec Ideal S1024x512 .f32) : FVec Ideal S1024x512 .f32 :=
  addf (addf (addf
    (mulf (broadcastTo S1024x512 C0 broadcasts_S1x512_S1024x512)
      (select (cmpi CmpIPredicate.eq (iota Kind.tc S1024x512 32 [0] iota_S1024x512_d0_w32) (broadcast S1024x512 0#32))
        (broadcastTo S1024x512 P2 broadcasts_S1x512_S1024x512)
        (select (cmpi CmpIPredicate.eq (iota Kind.tc S1024x512 32 [0] iota_S1024x512_d0_w32) (broadcast S1024x512 1#32))
          (broadcastTo S1024x512 P1 broadcasts_S1x512_S1024x512) (dynamicRotate 0 (2#32) none G rotates_S1024x512_d0))))
    (mulf (broadcastTo S1024x512 C1 broadcasts_S1x512_S1024x512)
      (select (cmpi CmpIPredicate.eq (iota Kind.tc S1024x512 32 [0] iota_S1024x512_d0_w32) (broadcast S1024x512 0#32))
        (broadcastTo S1024x512 P1 broadcasts_S1x512_S1024x512) (dynamicRotate 0 (1#32) none G rotates_S1024x512_d0))))
    (mulf (broadcastTo S1024x512 C2 broadcasts_S1x512_S1024x512) G))
    (broadcastTo S1024x512 B broadcasts_S1x512_S1024x512)

/-- The kernel's run of 1024 rows: each row's predecessors by rotation, the first two rows' from the run before. -/
noncomputable def subV (C0 C1 C2 B P2 P1 : FVec Ideal S1x512 .f32) (G U : FVec Ideal S1024x512 .f32) : FVec Ideal S1024x512 .bf16 :=
  truncf .bf16 (mulf (mulf (cv C0 C1 C2 B P2 P1 G) (addf (mulf (broadcast S1024x512 (FloatOps.ofBits (F := Ideal) FTy.f32 1056964608#32))
    (tanh (mulf (broadcast S1024x512 (FloatOps.ofBits (F := Ideal) FTy.f32 1056964608#32)) (cv C0 C1 C2 B P2 P1 G))))
    (broadcast S1024x512 (FloatOps.ofBits (F := Ideal) FTy.f32 1056964608#32)))) U) bitsLt_bf16_f32

theorem rot1 (G : FVec Ideal S1024x512 .f32) (r : Fin 1024) (n : Fin 512) (h : r.val ≠ 0) :
    dynamicRotate 0 (1#32) none G rotates_S1024x512_d0 (ix2 r n) = G (ix2 ⟨r.val - 1, by omega⟩ n) := by
  refine dynamicRotate_apply _ _ _ _ _ _ fun b => ?_
  fin_cases b
  · show r.val - 1 = (r.val + 1024 - 1 % 1024) % 1024
    omega
  · rfl

theorem rot2 (G : FVec Ideal S1024x512 .f32) (r : Fin 1024) (n : Fin 512) (h : r.val ≠ 0) (h' : r.val ≠ 1) :
    dynamicRotate 0 (2#32) none G rotates_S1024x512_d0 (ix2 r n) = G (ix2 ⟨r.val - 2, by omega⟩ n) := by
  refine dynamicRotate_apply _ _ _ _ _ _ fun b => ?_
  fin_cases b
  · show r.val - 2 = (r.val + 1024 - 2 % 1024) % 1024
    omega
  · rfl

theorem sel_eq {α : Type} (r k : Nat) (hr : r < 1024) (hk : k < 1024) (a b : α) :
    Scalar.select (IntOp.cmpi CmpIPredicate.eq (BitVec.ofNat 32 r) (BitVec.ofNat 32 k)) a b = if r = k then a else b := by
  by_cases h : r = k
  · subst h
    simp [Scalar.select, IntOp.cmpi]
  · have h' : BitVec.ofNat 32 r ≠ BitVec.ofNat 32 k := fun e => h (by
      have := congrArg BitVec.toNat e
      simp only [BitVec.toNat_ofNat] at this
      omega)
    have hb : (BitVec.ofNat 32 r == BitVec.ofNat 32 k) = false := beq_eq_false_iff_ne.mpr h'
    simp [Scalar.select, IntOp.cmpi, h, hb]

theorem cv_at (C0 C1 C2 B P2 P1 : FVec Ideal S1x512 .f32) (G : FVec Ideal S1024x512 .f32) (r : Fin 1024) (n : Fin 512) :
    cv C0 C1 C2 B P2 P1 G (ix2 r n) = C0 (ix2 0 n) * (if r.val = 0 then P2 (ix2 0 n) else if r.val = 1 then P1 (ix2 0 n) else G (ix2 ⟨r.val - 2, by omega⟩ n))
      + C1 (ix2 0 n) * (if r.val = 0 then P1 (ix2 0 n) else G (ix2 ⟨r.val - 1, by omega⟩ n)) + C2 (ix2 0 n) * G (ix2 r n) + B (ix2 0 n) := by
  have h1 := rot1 G r n
  have h2 := rot2 G r n
  unfold cv
  generalize dynamicRotate 0 (1#32) none G rotates_S1024x512_d0 = R1 at *
  generalize dynamicRotate 0 (2#32) none G rotates_S1024x512_d0 = R2 at *
  pointwise
  rw [sel_eq _ 0 r.isLt (by decide), sel_eq _ 1 r.isLt (by decide), sel_eq _ 0 r.isLt (by decide)]
  by_cases h0 : r.val = 0
  · rw [if_pos h0, if_pos h0, if_pos h0, if_pos h0]
  · rw [if_neg h0, if_neg h0, if_neg h0, if_neg h0, h1 h0]
    by_cases h1 : r.val = 1
    · rw [if_pos h1, if_pos h1]
    · rw [if_neg h1, if_neg h1, h2 h0 h1]

theorem subV_at (C0 C1 C2 B P2 P1 : FVec Ideal S1x512 .f32) (G U : FVec Ideal S1024x512 .f32) (r : Fin 1024) (n : Fin 512) :
    subV C0 C1 C2 B P2 P1 G U (ix2 r n) = subEl (C0 (ix2 0 n)) (C1 (ix2 0 n)) (C2 (ix2 0 n)) (B (ix2 0 n)) (P2 (ix2 0 n)) (P1 (ix2 0 n))
      (fun r => G (ix2 r n)) (U (ix2 r n)) r := by
  have h := cv_at C0 C1 C2 B P2 P1 G r n
  unfold subV subEl gluEl tsig
  rw [← h]
  generalize cv C0 C1 C2 B P2 P1 G = V
  pointwise

section Runs
variable (X0 : Vec Ideal S2048x2048 .bf16) (X1 X2 : Vec Ideal S2048x512 .f32) (X3 : Vec Ideal S3x512 .f32) (X4 : Vec Ideal S1x512 .f32)
  (S : Vec Ideal S8x512 .f32)

theorem gate_lo (k : Fin 1024) (n : Fin 512) : k0_pay7 X1 (View.ld X0 (Rect.unit ![0, 0] ![1024, 2048] inb_S2048x2048_S1024x2048_0_0)) (ix2 k n)
    = dotRow (fun j => X0 (ix2 ⟨k.val, by omega⟩ j)) (fun j => X1 (ix2 j n)) := by
  unfold k0_pay7 k0_pay3 dotRow
  pointwise
theorem gate_hi (k : Fin 1024) (n : Fin 512) : k0_pay15 (k0_pay3 X1) (View.ld X0 (Rect.unit ![1024, 0] ![1024, 2048] inb_S2048x2048_S1024x2048_1024_0)) (ix2 k n)
    = dotRow (fun j => X0 (ix2 ⟨1024 + k.val, by omega⟩ j)) (fun j => X1 (ix2 j n)) := by
  unfold k0_pay15 k0_pay3 dotRow
  pointwise
theorem up_lo (k : Fin 1024) (n : Fin 512) : k0_pay8 X2 (View.ld X0 (Rect.unit ![0, 0] ![1024, 2048] inb_S2048x2048_S1024x2048_0_0)) (ix2 k n)
    = dotRow (fun j => X0 (ix2 ⟨k.val, by omega⟩ j)) (fun j => X2 (ix2 j n)) := by
  unfold k0_pay8 k0_pay4 dotRow
  pointwise
theorem up_hi (k : Fin 1024) (n : Fin 512) : k0_pay16 (k0_pay4 X2) (View.ld X0 (Rect.unit ![1024, 0] ![1024, 2048] inb_S2048x2048_S1024x2048_1024_0)) (ix2 k n)
    = dotRow (fun j => X0 (ix2 ⟨1024 + k.val, by omega⟩ j)) (fun j => X2 (ix2 j n)) := by
  unfold k0_pay16 k0_pay4 dotRow
  pointwise

/-- The first run of a block, after the rows `S`. -/
theorem run_lo (k : Fin 1024) (n : Fin 512) :
    k0_pay12 (k0_pay6 S) (k0_pay7 X1 (View.ld X0 (Rect.unit ![0, 0] ![1024, 2048] inb_S2048x2048_S1024x2048_0_0))) (k0_pay8 X2 (View.ld X0 (Rect.unit ![0, 0] ![1024, 2048] inb_S2048x2048_S1024x2048_0_0))) (k0_pay9 X1 S (View.ld X0 (Rect.unit ![0, 0] ![1024, 2048] inb_S2048x2048_S1024x2048_0_0))) k0_pay10 (k0_pay11 X1 S (View.ld X0 (Rect.unit ![0, 0] ![1024, 2048] inb_S2048x2048_S1024x2048_0_0))) (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4 (ix2 k n)
    = subEl (X3 (ix2 0 n)) (X3 (ix2 1 n)) (X3 (ix2 2 n)) (X4 (ix2 0 n)) (S (ix2 6 n)) (S (ix2 7 n))
      (fun k => dotRow (fun j => X0 (ix2 ⟨k.val, by omega⟩ j)) (fun j => X1 (ix2 j n)))
      (dotRow (fun j => X0 (ix2 ⟨k.val, by omega⟩ j)) (fun j => X2 (ix2 j n))) k := by
  have h : k0_pay12 (k0_pay6 S) (k0_pay7 X1 (View.ld X0 (Rect.unit ![0, 0] ![1024, 2048] inb_S2048x2048_S1024x2048_0_0))) (k0_pay8 X2 (View.ld X0 (Rect.unit ![0, 0] ![1024, 2048] inb_S2048x2048_S1024x2048_0_0))) (k0_pay9 X1 S (View.ld X0 (Rect.unit ![0, 0] ![1024, 2048] inb_S2048x2048_S1024x2048_0_0))) k0_pay10 (k0_pay11 X1 S (View.ld X0 (Rect.unit ![0, 0] ![1024, 2048] inb_S2048x2048_S1024x2048_0_0))) (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4
      = subV (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4 (shapeCast S1x512 (k0_pay6 S) shapeCasts_S1x512_S1x512) (shapeCast S1x512 (k0_pay5 S) shapeCasts_S1x512_S1x512)
        (k0_pay7 X1 (View.ld X0 (Rect.unit ![0, 0] ![1024, 2048] inb_S2048x2048_S1024x2048_0_0))) (k0_pay8 X2 (View.ld X0 (Rect.unit ![0, 0] ![1024, 2048] inb_S2048x2048_S1024x2048_0_0))) := by
    unfold k0_pay12 k0_pay9 k0_pay11 k0_pay10 subV cv
    rfl
  rw [h, subV_at]
  simp only [gate_lo, up_lo]
  unfold k0_pay5 k0_pay6
  congr 1 <;> pointwise

/-- The second run of a block, after the first. -/
theorem run_hi (k : Fin 1024) (n : Fin 512) :
    k0_pay18 (iota Kind.tc S1024x512 32 [0] iota_S1024x512_d0_w32) (k0_pay13 (k0_pay7 X1 (View.ld X0 (Rect.unit ![0, 0] ![1024, 2048] inb_S2048x2048_S1024x2048_0_0)))) (k0_pay14 (k0_pay7 X1 (View.ld X0 (Rect.unit ![0, 0] ![1024, 2048] inb_S2048x2048_S1024x2048_0_0)))) (k0_pay15 (k0_pay3 X1) (View.ld X0 (Rect.unit ![1024, 0] ![1024, 2048] inb_S2048x2048_S1024x2048_1024_0))) (k0_pay16 (k0_pay4 X2) (View.ld X0 (Rect.unit ![1024, 0] ![1024, 2048] inb_S2048x2048_S1024x2048_1024_0)))
      (k0_pay17 (k0_pay3 X1) (iota Kind.tc S1024x512 32 [0] iota_S1024x512_d0_w32) (k0_pay7 X1 (View.ld X0 (Rect.unit ![0, 0] ![1024, 2048] inb_S2048x2048_S1024x2048_0_0))) (View.ld X0 (Rect.unit ![1024, 0] ![1024, 2048] inb_S2048x2048_S1024x2048_1024_0))) (0#32) (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4 (ix2 k n)
    = subEl (X3 (ix2 0 n)) (X3 (ix2 1 n)) (X3 (ix2 2 n)) (X4 (ix2 0 n))
      (dotRow (fun j => X0 (ix2 ⟨1022, by omega⟩ j)) (fun j => X1 (ix2 j n)))
      (dotRow (fun j => X0 (ix2 ⟨1023, by omega⟩ j)) (fun j => X1 (ix2 j n)))
      (fun k => dotRow (fun j => X0 (ix2 ⟨1024 + k.val, by omega⟩ j)) (fun j => X1 (ix2 j n)))
      (dotRow (fun j => X0 (ix2 ⟨1024 + k.val, by omega⟩ j)) (fun j => X2 (ix2 j n))) k := by
  have h : k0_pay18 (iota Kind.tc S1024x512 32 [0] iota_S1024x512_d0_w32) (k0_pay13 (k0_pay7 X1 (View.ld X0 (Rect.unit ![0, 0] ![1024, 2048] inb_S2048x2048_S1024x2048_0_0)))) (k0_pay14 (k0_pay7 X1 (View.ld X0 (Rect.unit ![0, 0] ![1024, 2048] inb_S2048x2048_S1024x2048_0_0)))) (k0_pay15 (k0_pay3 X1) (View.ld X0 (Rect.unit ![1024, 0] ![1024, 2048] inb_S2048x2048_S1024x2048_1024_0))) (k0_pay16 (k0_pay4 X2) (View.ld X0 (Rect.unit ![1024, 0] ![1024, 2048] inb_S2048x2048_S1024x2048_1024_0)))
      (k0_pay17 (k0_pay3 X1) (iota Kind.tc S1024x512 32 [0] iota_S1024x512_d0_w32) (k0_pay7 X1 (View.ld X0 (Rect.unit ![0, 0] ![1024, 2048] inb_S2048x2048_S1024x2048_0_0))) (View.ld X0 (Rect.unit ![1024, 0] ![1024, 2048] inb_S2048x2048_S1024x2048_1024_0))) (0#32) (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4
      = subV (View.ld X3 (Rect.unit ![0, 0] ![1, 512] inb_S3x512_S1x512_0_0)) (View.ld X3 (Rect.unit ![1, 0] ![1, 512] inb_S3x512_S1x512_1_0)) (View.ld X3 (Rect.unit ![2, 0] ![1, 512] inb_S3x512_S1x512_2_0)) X4 (shapeCast S1x512 (k0_pay14 (k0_pay7 X1 (View.ld X0 (Rect.unit ![0, 0] ![1024, 2048] inb_S2048x2048_S1024x2048_0_0)))) shapeCasts_S1x512_S1x512)
        (shapeCast S1x512 (k0_pay13 (k0_pay7 X1 (View.ld X0 (Rect.unit ![0, 0] ![1024, 2048] inb_S2048x2048_S1024x2048_0_0)))) shapeCasts_S1x512_S1x512)
        (k0_pay15 (k0_pay3 X1) (View.ld X0 (Rect.unit ![1024, 0] ![1024, 2048] inb_S2048x2048_S1024x2048_1024_0))) (k0_pay16 (k0_pay4 X2) (View.ld X0 (Rect.unit ![1024, 0] ![1024, 2048] inb_S2048x2048_S1024x2048_1024_0))) := by
    unfold k0_pay18 k0_pay17 subV cv
    rfl
  have e2 : shapeCast S1x512 (k0_pay14 (k0_pay7 X1 (View.ld X0 (Rect.unit ![0, 0] ![1024, 2048] inb_S2048x2048_S1024x2048_0_0)))) shapeCasts_S1x512_S1x512 (ix2 0 n) = k0_pay7 X1 (View.ld X0 (Rect.unit ![0, 0] ![1024, 2048] inb_S2048x2048_S1024x2048_0_0)) (ix2 1022 n) := by
    unfold k0_pay14
    generalize k0_pay7 X1 (View.ld X0 (Rect.unit ![0, 0] ![1024, 2048] inb_S2048x2048_S1024x2048_0_0)) = G
    pointwise
  have e1 : shapeCast S1x512 (k0_pay13 (k0_pay7 X1 (View.ld X0 (Rect.unit ![0, 0] ![1024, 2048] inb_S2048x2048_S1024x2048_0_0)))) shapeCasts_S1x512_S1x512 (ix2 0 n) = k0_pay7 X1 (View.ld X0 (Rect.unit ![0, 0] ![1024, 2048] inb_S2048x2048_S1024x2048_0_0)) (ix2 1023 n) := by
    unfold k0_pay13
    generalize k0_pay7 X1 (View.ld X0 (Rect.unit ![0, 0] ![1024, 2048] inb_S2048x2048_S1024x2048_0_0)) = G
    pointwise
  rw [h, subV_at, e1, e2]
  simp only [gate_lo, gate_hi, up_hi]
  congr 1 <;> pointwise
end Runs

/-- An element of a point's block of activations, after a block that ends with the gate's entries `p2`, `p1`. -/
noncomputable def actEl (p2 p1 : EReal) (r : Fin 2048) (n : Fin 512) : EReal :=
  gluEl (iblk m c 3 t (ix2 0 n)) (iblk m c 3 t (ix2 1 n)) (iblk m c 3 t (ix2 2 n)) (iblk m c 4 t (ix2 0 n))
    (if r.val = 0 then p2 else if r.val = 1 then p1 else gateB m c t ⟨r.val - 2, by omega⟩ n)
    (if r.val = 0 then p1 else gateB m c t ⟨r.val - 1, by omega⟩ n) (gateB m c t r n) (upB m c t r n)

theorem act_lo (p2 p1 : EReal) (k : Fin 1024) (n : Fin 512) :
    subEl (iblk m c 3 t (ix2 0 n)) (iblk m c 3 t (ix2 1 n)) (iblk m c 3 t (ix2 2 n)) (iblk m c 4 t (ix2 0 n)) p2 p1
      (fun k => gateB m c t ⟨k.val, by omega⟩ n) (upB m c t ⟨k.val, by omega⟩ n) k = actEl m c t p2 p1 ⟨k.val, by omega⟩ n := rfl

theorem act_hi (p2 p1 : EReal) (k : Fin 1024) (n : Fin 512) :
    subEl (iblk m c 3 t (ix2 0 n)) (iblk m c 3 t (ix2 1 n)) (iblk m c 3 t (ix2 2 n)) (iblk m c 4 t (ix2 0 n))
      (gateB m c t ⟨1022, by omega⟩ n) (gateB m c t ⟨1023, by omega⟩ n)
      (fun k => gateB m c t ⟨1024 + k.val, by omega⟩ n) (upB m c t ⟨1024 + k.val, by omega⟩ n) k = actEl m c t p2 p1 ⟨1024 + k.val, by omega⟩ n := by
  unfold subEl actEl
  have h0 : ¬1024 + k.val = 0 := by omega
  have h1 : ¬1024 + k.val = 1 := by omega
  have g2 : (if k.val = 0 then gateB m c t ⟨1022, by omega⟩ n else if k.val = 1 then gateB m c t ⟨1023, by omega⟩ n
      else gateB m c t ⟨1024 + (k.val - 2), by omega⟩ n) = gateB m c t ⟨1024 + k.val - 2, by omega⟩ n := by
    split
    · exact congrArg (gateB m c t · n) (Fin.ext (by show 1022 = 1024 + k.val - 2; omega))
    split
    · exact congrArg (gateB m c t · n) (Fin.ext (by show 1023 = 1024 + k.val - 2; omega))
    · exact congrArg (gateB m c t · n) (Fin.ext (by show 1024 + (k.val - 2) = 1024 + k.val - 2; omega))
  have g1 : (if k.val = 0 then gateB m c t ⟨1023, by omega⟩ n else gateB m c t ⟨1024 + (k.val - 1), by omega⟩ n)
      = gateB m c t ⟨1024 + k.val - 1, by omega⟩ n := by
    split
    · exact congrArg (gateB m c t · n) (Fin.ext (by show 1023 = 1024 + k.val - 1; omega))
    · exact congrArg (gateB m c t · n) (Fin.ext (by show 1024 + (k.val - 1) = 1024 + k.val - 1; omega))
  dsimp only
  rw [g1, g2, if_neg h0, if_neg h1, if_neg h0]

set_option maxHeartbeats 1000000 in
theorem act_B (h0 : ¬t.val % 2 = 0) (r : Fin 2048) (n : Fin 512) :
    (outsAt0 m c t.val t.isLt).1 (ix2 r n)
      = actEl m c t ((outsAt0 m c (t.val - 1) (lt_of_le_of_lt (Nat.sub_le _ _) t.isLt)).2.2 (ix2 6 n))
        ((outsAt0 m c (t.val - 1) (lt_of_le_of_lt (Nat.sub_le _ _) t.isLt)).2.2 (ix2 7 n)) r n := by
  rw [outsAt0_B m c t h0]
  dsimp only
  frame_open
  simp (disch := decide) only [↓ View.readCov_skip, ↓ View.readCov_cons_toLoadRect, ↓ View.readCov_fill]
  frame_out
  simp only [read_unread_whole]
  canon_tiles x hx
  · obtain ⟨rv, rl⟩ := r
    change rv = 1024 + (x 0).val at hx0
    subst hx0
    obtain rfl : n = x 1 := Fin.ext hx1
    refine Eq.trans ?_ (act_hi m c t _ _ (x 0) (x 1))
    rw [show x = ix2 (x 0) (x 1) from by funext a; fin_cases a <;> rfl]
    exact run_hi _ _ _ _ _ _ _
  · obtain ⟨rv, rl⟩ := r
    change rv = (x 0).val at hx0
    subst hx0
    obtain rfl : n = x 1 := Fin.ext hx1
    refine Eq.trans ?_ (act_lo m c t _ _ (x 0) (x 1))
    rw [show x = ix2 (x 0) (x 1) from by funext a; fin_cases a <;> rfl]
    exact run_lo _ _ _ _ _ _ _ _

set_option maxHeartbeats 1000000 in
theorem act_A (h0 : t.val % 2 = 0) (r : Fin 2048) (n : Fin 512) :
    (outsAt0 m c t.val t.isLt).1 (ix2 r n) = actEl m c t 0 0 r n := by
  rw [outsAt0_A m c t h0]
  dsimp only
  frame_open
  simp (disch := decide) only [↓ View.readCov_skip, ↓ View.readCov_cons_toLoadRect, ↓ View.readCov_fill]
  frame_out
  have hz : ∀ j : Fin 8, k0_pay2 (F := Ideal) (ix2 j n) = 0 := fun j => by unfold k0_pay2; pointwise
  canon_tiles x hx
  · obtain ⟨rv, rl⟩ := r
    change rv = 1024 + (x 0).val at hx0
    subst hx0
    obtain rfl : n = x 1 := Fin.ext hx1
    refine Eq.trans ?_ (act_hi m c t _ _ (x 0) (x 1))
    rw [show x = ix2 (x 0) (x 1) from by funext a; fin_cases a <;> rfl]
    exact run_hi _ _ _ _ _ _ _
  · obtain ⟨rv, rl⟩ := r
    change rv = (x 0).val at hx0
    subst hx0
    obtain rfl : n = x 1 := Fin.ext hx1
    refine Eq.trans ?_ (act_lo m c t _ _ (x 0) (x 1))
    rw [show x = ix2 (x 0) (x 1) from by funext a; fin_cases a <;> rfl]
    refine Eq.trans (run_lo _ _ _ _ _ _ _ _) ?_
    rw [hz, hz]
    rfl

end Cert.Kernel3Ideal.Gen
-- ==== Proof.Mix.UpRun.lean ====
module

public import proofs.«01_k».proof.Proof.Mix.UpAct

@[expose] public section

set_option maxRecDepth 16384

/-! The up-projection's two results, as arrays. -/

namespace Cert.Kernel3Ideal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)

/-- The gate's and the other half's entry at a row and a column of the layer. -/
noncomputable def gateAt (x0 : S8192x2048.Idx → EReal) (x1 : S2048x11264.Idx → EReal) (R : Fin 8192) (n : Fin 5632) : EReal :=
  dotRow (fun k => x0 (ix2 R k)) (fun k => x1 (ix2 k ⟨n.val, by omega⟩))
noncomputable def upAt (x0 : S8192x2048.Idx → EReal) (x1 : S2048x11264.Idx → EReal) (R : Fin 8192) (n : Fin 5632) : EReal :=
  dotRow (fun k => x0 (ix2 R k)) (fun k => x1 (ix2 k ⟨5632 + n.val, by omega⟩))

/-- The activations at a row and a column; a sequence is 4096 rows, with zeros before its first. -/
noncomputable def gluAt (x0 : S8192x2048.Idx → EReal) (x1 : S2048x11264.Idx → EReal) (x2 : S3x5632.Idx → EReal) (x3 : S1x5632.Idx → EReal)
    (R : Fin 8192) (n : Fin 5632) : EReal :=
  gluEl (x2 (ix2 0 n)) (x2 (ix2 1 n)) (x2 (ix2 2 n)) (x3 (ix2 0 n))
    (if R.val % 4096 < 2 then 0 else gateAt x0 x1 ⟨R.val - 2, by omega⟩ n)
    (if R.val % 4096 < 1 then 0 else gateAt x0 x1 ⟨R.val - 1, by omega⟩ n) (gateAt x0 x1 R n) (upAt x0 x1 R n)

noncomputable def gluOut (x0 : S8192x2048.Idx → EReal) (x1 : S2048x11264.Idx → EReal) (x2 : S3x5632.Idx → EReal) (x3 : S1x5632.Idx → EReal) :
    S8192x5632.Idx → EReal := fun i => gluAt x0 x1 x2 x3 (i 0) (i 1)

noncomputable def gluArr (c : Dev nD) : S8192x5632.Idx → EReal :=
  gluOut (m ((c : Thread nD τ).loc main_arg0)) (m ((c : Thread nD τ).loc main_arg1)) (m ((c : Thread nD τ).loc main_arg2)) (m ((c : Thread nD τ).loc main_arg3))
noncomputable def castArr (c : Dev nD) : S5632x2048.Idx → EReal := fun i => m ((c : Thread nD τ).loc main_arg4) i

theorem gateB_eq (r : Fin 2048) (n : Fin 512) : gateB m c t r n = gateAt (m ((c : Thread nD τ).loc main_arg0)) (m ((c : Thread nD τ).loc main_arg1))
    ⟨2048 * (t.val % 4) + r.val, by omega⟩ ⟨512 * (t.val / 4) + n.val, by have := lt44 t; omega⟩ := by
  unfold gateB gateAt
  simp only [blk0, blk1]
theorem upB_eq (r : Fin 2048) (n : Fin 512) : upB m c t r n = upAt (m ((c : Thread nD τ).loc main_arg0)) (m ((c : Thread nD τ).loc main_arg1))
    ⟨2048 * (t.val % 4) + r.val, by omega⟩ ⟨512 * (t.val / 4) + n.val, by have := lt44 t; omega⟩ := by
  unfold upB upAt
  simp only [blk0, blk2]

theorem gateAt_congr (x0 : S8192x2048.Idx → EReal) (x1 : S2048x11264.Idx → EReal) {R R' : Fin 8192} {n n' : Fin 5632} (h : R.val = R'.val) (h' : n.val = n'.val) :
    gateAt x0 x1 R n = gateAt x0 x1 R' n' := by
  obtain rfl := Fin.ext h
  obtain rfl := Fin.ext h'
  rfl

/-- A point's block of activations in terms of the arrays, from what the rows before it are. -/
theorem actEl_eq (p2 p1 : EReal) (r : Fin 2048) (n : Fin 512) (R : Fin 8192) (N : Fin 5632)
    (hR : R.val = 2048 * (t.val % 4) + r.val) (hN : N.val = 512 * (t.val / 4) + n.val)
    (h20 : r.val = 0 → p2 = if R.val % 4096 < 2 then 0 else gateAt (m ((c : Thread nD τ).loc main_arg0)) (m ((c : Thread nD τ).loc main_arg1)) ⟨R.val - 2, by omega⟩ N)
    (h21 : r.val = 1 → p1 = if R.val % 4096 < 2 then 0 else gateAt (m ((c : Thread nD τ).loc main_arg0)) (m ((c : Thread nD τ).loc main_arg1)) ⟨R.val - 2, by omega⟩ N)
    (h10 : r.val = 0 → p1 = if R.val % 4096 < 1 then 0 else gateAt (m ((c : Thread nD τ).loc main_arg0)) (m ((c : Thread nD τ).loc main_arg1)) ⟨R.val - 1, by omega⟩ N) :
    actEl m c t p2 p1 r n = gluAt (m ((c : Thread nD τ).loc main_arg0)) (m ((c : Thread nD τ).loc main_arg1)) (m ((c : Thread nD τ).loc main_arg2)) (m ((c : Thread nD τ).loc main_arg3)) R N := by
  have e2 : (if r.val = 0 then p2 else if r.val = 1 then p1 else gateB m c t ⟨r.val - 2, by omega⟩ n)
      = if R.val % 4096 < 2 then 0 else gateAt (m ((c : Thread nD τ).loc main_arg0)) (m ((c : Thread nD τ).loc main_arg1)) ⟨R.val - 2, by omega⟩ N := by
    by_cases a : r.val = 0
    · rw [if_pos a]; exact h20 a
    by_cases b : r.val = 1
    · rw [if_neg a, if_pos b]; exact h21 b
    rw [if_neg a, if_neg b, if_neg (by omega), gateB_eq]
    exact gateAt_congr _ _ (by show 2048 * (t.val % 4) + (r.val - 2) = R.val - 2; omega) hN.symm
  have e1 : (if r.val = 0 then p1 else gateB m c t ⟨r.val - 1, by omega⟩ n)
      = if R.val % 4096 < 1 then 0 else gateAt (m ((c : Thread nD τ).loc main_arg0)) (m ((c : Thread nD τ).loc main_arg1)) ⟨R.val - 1, by omega⟩ N := by
    by_cases a : r.val = 0
    · rw [if_pos a]; exact h10 a
    rw [if_neg a, if_neg (by omega), gateB_eq]
    exact gateAt_congr _ _ (by show 2048 * (t.val % 4) + (r.val - 1) = R.val - 1; omega) hN.symm
  unfold actEl gluAt
  rw [e2, e1, gateB_eq, upB_eq, blk3, blk3, blk3, blk4]
  have eR : (⟨2048 * (t.val % 4) + r.val, by omega⟩ : Fin 8192) = R := Fin.ext hR.symm
  have eN : (⟨512 * (t.val / 4) + n.val, by have := lt44 t; omega⟩ : Fin 5632) = N := Fin.ext hN.symm
  rw [eR, eN]

theorem block6_at (r : Fin 2048) (n : Fin 512) : (outsAt0 m c t.val t.isLt).1 (ix2 r n)
    = gluArr m c (ix2 ⟨2048 * (t.val % 4) + r.val, by omega⟩ ⟨512 * (t.val / 4) + n.val, by have := lt44 t; omega⟩) := by
  have hr := r.isLt
  by_cases h0 : t.val % 2 = 0
  · rw [act_A m c t h0]
    refine actEl_eq m c t 0 0 r n _ _ rfl rfl (fun h => ?_) (fun h => ?_) (fun h => ?_)
    · rw [if_pos (by show (2048 * (t.val % 4) + r.val) % 4096 < 2; omega)]
    · rw [if_pos (by show (2048 * (t.val % 4) + r.val) % 4096 < 2; omega)]
    · rw [if_pos (by show (2048 * (t.val % 4) + r.val) % 4096 < 1; omega)]
  · have hc := fun k => carry_A m c ⟨t.val - 1, lt_of_le_of_lt (Nat.sub_le _ _) t.isLt⟩ (by show (t.val - 1) % 2 = 0; omega) k n
    have e6 := hc 6
    have e7 := hc 7
    rw [gateB_eq] at e6 e7
    rw [act_B m c t h0]
    refine actEl_eq m c t _ _ r n _ _ rfl rfl (fun h => ?_) (fun h => ?_) (fun h => ?_)
    · rw [if_neg (by show ¬(2048 * (t.val % 4) + r.val) % 4096 < 2; omega)]
      exact e6.trans (gateAt_congr _ _ (by show 2048 * ((t.val - 1) % 4) + (1024 + (1016 + 6)) = 2048 * (t.val % 4) + r.val - 2; omega)
        (by show 512 * ((t.val - 1) / 4) + n.val = 512 * (t.val / 4) + n.val; omega))
    · rw [if_neg (by show ¬(2048 * (t.val % 4) + r.val) % 4096 < 2; omega)]
      exact e7.trans (gateAt_congr _ _ (by show 2048 * ((t.val - 1) % 4) + (1024 + (1016 + 7)) = 2048 * (t.val % 4) + r.val - 2; omega)
        (by show 512 * ((t.val - 1) / 4) + n.val = 512 * (t.val / 4) + n.val; omega))
    · rw [if_neg (by show ¬(2048 * (t.val % 4) + r.val) % 4096 < 1; omega)]
      exact e7.trans (gateAt_congr _ _ (by show 2048 * ((t.val - 1) % 4) + (1024 + (1016 + 7)) = 2048 * (t.val % 4) + r.val - 1; omega)
        (by show 512 * ((t.val - 1) / 4) + n.val = 512 * (t.val / 4) + n.val; omega))

theorem block7_at (r : Fin 128) (n : Fin 2048) : (outsAt0 m c t.val t.isLt).2.1 (ix2 r n)
    = castArr m c (ix2 ⟨128 * t.val + r.val, by have := lt44 t; omega⟩ ⟨2048 * 0 + n.val, by omega⟩) := by
  have e : (⟨2048 * 0 + n.val, by omega⟩ : Fin 2048) = n := Fin.ext (by show 2048 * 0 + n.val = n.val; omega)
  rw [e]
  by_cases h0 : t.val % 2 = 0
  · rw [weight_A m c t h0]; exact blk5 m c t r n
  · rw [weight_B m c t h0]; exact blk5 m c t r n

theorem idx6 : ∀ t : Fin cfg0.N, win0_6.index t 0 = t.val % 4 ∧ win0_6.index t 1 = t.val / 4 := by decide +kernel

/-- What a point writes back to output 6 is its block of the result. -/
theorem flushed6_eq : (dats m 0 c).flushed 6 t = ((cfg0.win 6).blk t).view.read (Elt Ideal) (gluArr m c) := by
  rw [Value.flushed6]
  funext y
  have h : t.val < 44 := t.isLt
  have hy0 : (y 0).val < 2048 := (y 0).isLt
  have hy1 : (y 1).val < 512 := (y 1).isLt
  obtain ⟨e0, e1⟩ := idx6 t
  have hb : ((cfg0.win 6).blk t).view.emb y = ix2 ⟨2048 * (t.val % 4) + (y 0).val, by omega⟩ ⟨512 * (t.val / 4) + (y 1).val, by omega⟩ := by
    funext a; apply Fin.ext
    match a with
    | ⟨0, _⟩ => show win0_6.index t (0 : Fin 2) * 2048 + 1 * (y 0).val = 2048 * (t.val % 4) + (y 0).val; rw [e0]; omega
    | ⟨1, _⟩ => show win0_6.index t (1 : Fin 2) * 512 + 1 * (y 1).val = 512 * (t.val / 4) + (y 1).val; rw [e1]; omega
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t.val t.isLt).1 ((cfg0.win 6).xinj (grid0.coords t) y) = gluArr m c (((cfg0.win 6).blk t).view.emb y)
  rw [hb, hl]
  exact block6_at m c t _ _

/-- Every element of output 6 is in some point's block. -/
theorem covered6 (i : S8192x5632.Idx) : ∃ t : Fin cfg0.N, (cfg0.win 6).flush t = true ∧ i ∈ ((cfg0.win 6).blk t).view.set := by
  have h0 : (i 0).val < 8192 := (i 0).isLt
  have h1 : (i 1).val < 5632 := (i 1).isLt
  obtain ⟨t, ht⟩ : ∃ t : Fin cfg0.N, t.val = (i 0).val / 2048 + 4 * ((i 1).val / 512) := ⟨⟨(i 0).val / 2048 + 4 * ((i 1).val / 512), by show (i 0).val / 2048 + 4 * ((i 1).val / 512) < 44; omega⟩, rfl⟩
  obtain ⟨e0, e1⟩ := idx6 t
  have hb : ((cfg0.win 6).blk t).view.emb (ix2 ⟨(i 0).val % 2048, by omega⟩ ⟨(i 1).val % 512, by omega⟩ : S2048x512.Idx) = i := by
    funext a; apply Fin.ext
    match a with
    | ⟨0, _⟩ => show win0_6.index t (0 : Fin 2) * 2048 + 1 * ((i 0).val % 2048) = (i 0).val; rw [e0]; omega
    | ⟨1, _⟩ => show win0_6.index t (1 : Fin 2) * 512 + 1 * ((i 1).val % 512) = (i 1).val; rw [e1]; omega
  refine ⟨t, flush0_6 _, ?_⟩
  have h := ((cfg0.win 6).blk t).view.emb_mem_set (ix2 ⟨(i 0).val % 2048, by omega⟩ ⟨(i 1).val % 512, by omega⟩ : S2048x512.Idx)
  rwa [hb] at h

/-- Output 6 after the run. -/
theorem final6 : (dats m 0 c).arrAt 6 cfg0.N = gluArr m c :=
  (dats m 0 c).arrAt_eq_of_cover 6 (gluArr m c) (fun t _ => flushed6_eq m c t) (covered6)

theorem idx7 : ∀ t : Fin cfg0.N, win0_7.index t 0 = t.val ∧ win0_7.index t 1 = 0 := by decide +kernel

/-- What a point writes back to output 7 is its block of the result. -/
theorem flushed7_eq : (dats m 0 c).flushed 7 t = ((cfg0.win 7).blk t).view.read (Elt Ideal) (castArr m c) := by
  rw [Value.flushed7]
  funext y
  have h : t.val < 44 := t.isLt
  have hy0 : (y 0).val < 128 := (y 0).isLt
  have hy1 : (y 1).val < 2048 := (y 1).isLt
  obtain ⟨e0, e1⟩ := idx7 t
  have hb : ((cfg0.win 7).blk t).view.emb y = ix2 ⟨128 * (t.val) + (y 0).val, by omega⟩ ⟨2048 * (0) + (y 1).val, by omega⟩ := by
    funext a; apply Fin.ext
    match a with
    | ⟨0, _⟩ => show win0_7.index t (0 : Fin 2) * 128 + 1 * (y 0).val = 128 * (t.val) + (y 0).val; rw [e0]; omega
    | ⟨1, _⟩ => show win0_7.index t (1 : Fin 2) * 2048 + 1 * (y 1).val = 2048 * (0) + (y 1).val; rw [e1]; omega
  have hl : (cfg0.win 7).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t.val t.isLt).2.1 ((cfg0.win 7).xinj (grid0.coords t) y) = castArr m c (((cfg0.win 7).blk t).view.emb y)
  rw [hb, hl]
  exact block7_at m c t _ _

/-- Every element of output 7 is in some point's block. -/
theorem covered7 (i : S5632x2048.Idx) : ∃ t : Fin cfg0.N, (cfg0.win 7).flush t = true ∧ i ∈ ((cfg0.win 7).blk t).view.set := by
  have h0 : (i 0).val < 5632 := (i 0).isLt
  have h1 : (i 1).val < 2048 := (i 1).isLt
  obtain ⟨t, ht⟩ : ∃ t : Fin cfg0.N, t.val = (i 0).val / 128 := ⟨⟨(i 0).val / 128, by show (i 0).val / 128 < 44; omega⟩, rfl⟩
  obtain ⟨e0, e1⟩ := idx7 t
  have hb : ((cfg0.win 7).blk t).view.emb (ix2 ⟨(i 0).val % 128, by omega⟩ ⟨(i 1).val % 2048, by omega⟩ : S128x2048.Idx) = i := by
    funext a; apply Fin.ext
    match a with
    | ⟨0, _⟩ => show win0_7.index t (0 : Fin 2) * 128 + 1 * ((i 0).val % 128) = (i 0).val; rw [e0]; omega
    | ⟨1, _⟩ => show win0_7.index t (1 : Fin 2) * 2048 + 1 * ((i 1).val % 2048) = (i 1).val; rw [e1]; omega
  refine ⟨t, flush0_7 _, ?_⟩
  have h := ((cfg0.win 7).blk t).view.emb_mem_set (ix2 ⟨(i 0).val % 128, by omega⟩ ⟨(i 1).val % 2048, by omega⟩ : S128x2048.Idx)
  rwa [hb] at h

/-- Output 7 after the run. -/
theorem final7 : (dats m 0 c).arrAt 7 cfg0.N = castArr m c :=
  (dats m 0 c).arrAt_eq_of_cover 7 (castArr m c) (fun t _ => flushed7_eq m c t) (covered7)

end Cert.Kernel3Ideal.Gen
-- ==== Proof.Mix.UpRef.lean ====
module

public import proofs.«01_k».proof.Proof.Mix.UpRun
public import proofs.«01_k».proof.Proof.Mix.RefRow
public import proofs.«01_k».proof.Proof.Gen.Reference3Ideal.Read

@[expose] public section

set_option maxRecDepth 16384

/-! The up-projection's reference, at an element. -/

namespace Cert.Reference3Ideal.Read
open Idealize.ShloMosaic Idealize.ShloMosaic.TcCoe Idealize.ShloMosaic.Tactic
open Cert.Reference3Ideal.Gen Finset Cert.Kernel3Ideal.Gen

variable (x0 : S8192x2048.Idx → EReal) (x1 : S2048x11264.Idx → EReal) (x2 : S3x5632.Idx → EReal) (x3 : S1x5632.Idx → EReal)

theorem gate_at (b : Fin 2) (s : Fin 4096) (n : Fin 5632) :
    val_main_v3 (F := Ideal) x0 x1 (ix3 b s n) = gateAt x0 x1 ⟨b.val * 4096 + s.val, by omega⟩ n := by
  unfold gateAt dotRow val_main_v3 val_main_v2 val_main_v1 val_main_v0
  pointwise

theorem up_at (b : Fin 2) (s : Fin 4096) (n : Fin 5632) :
    val_main_v4 (F := Ideal) x0 x1 (ix3 b s n) = upAt x0 x1 ⟨b.val * 4096 + s.val, by omega⟩ n := by
  unfold upAt dotRow val_main_v4 val_main_v2 val_main_v1 val_main_v0
  pointwise

/-- The padded gate: two rows of zeros before each sequence. -/
theorem past_at (b : Fin 2) (p : Fin 4098) (n : Fin 5632) :
    val_main_v5 (F := Ideal) x0 x1 (ix3 b p n) = if h : p.val < 2 then 0 else gateAt x0 x1 ⟨b.val * 4096 + (p.val - 2), by omega⟩ n := by
  unfold val_main_v5
  by_cases h : p.val < 2
  · rw [dif_pos h]
    refine (pad_apply_of_not_inside _ _ _ _ _ _ _ _ 1 (fun hh => absurd hh.1 ?_)).trans ?_
    · show ¬2 ≤ p.val
      omega
    · unfold val_main_call0_v0 val_main_c
      pointwise
      show ((((0#32 : BitVec 32).toInt : ℤ) : ℝ) : EReal) = 0
      simp
  · rw [dif_neg h]
    refine (pad_apply_of_inside _ _ _ _ _ _ _ _ (ix3 b ⟨p.val - 2, by omega⟩ n) (fun a => ?_)).trans (gate_at x0 x1 b ⟨p.val - 2, by omega⟩ n)
    match a with
    | ⟨0, _⟩ => show b.val = 0 + b.val * (0 + 1); omega
    | ⟨1, _⟩ => show p.val = 2 + (p.val - 2) * (0 + 1); omega
    | ⟨2, _⟩ => show n.val = 0 + n.val * (0 + 1); omega

theorem conv_at (b : Fin 2) (s : Fin 4096) (n : Fin 5632) :
    val_main_v30 (F := Ideal) x0 x1 x2 x3 (ix3 b s n) =
      x2 (ix2 0 n) * val_main_v5 (F := Ideal) x0 x1 (ix3 b ⟨s.val, by omega⟩ n)
      + x2 (ix2 1 n) * val_main_v5 (F := Ideal) x0 x1 (ix3 b ⟨1 + s.val, by omega⟩ n)
      + x2 (ix2 2 n) * val_main_v5 (F := Ideal) x0 x1 (ix3 b ⟨2 + s.val, by omega⟩ n) + x3 (ix2 0 n) := by
  unfold val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_cst
    val_main_v11 val_main_v10 val_main_v9 val_main_v8 val_main_v7 val_main_v6
  generalize val_main_v5 (F := Ideal) x0 x1 = V
  pointwise
  rw [mul_comm (x2 (ix2 0 n)), mul_comm (x2 (ix2 1 n)), mul_comm (x2 (ix2 2 n))]

/-- The reference's activations at an element. -/
theorem glu_at (i : S8192x5632.Idx) : val_main_v34 (F := Ideal) x0 x1 x2 x3 i = gluOut x0 x1 x2 x3 i := by
  obtain ⟨R, n, rfl⟩ : ∃ (R : Fin 8192) (n : Fin 5632), i = ix2 R n := ⟨i 0, i 1, by funext a; fin_cases a <;> rfl⟩
  have hR := R.isLt
  have hc := conv_at x0 x1 x2 x3 ⟨R.val / 4096, by omega⟩ ⟨R.val % 4096, by omega⟩ n
  have hu := up_at x0 x1 ⟨R.val / 4096, by omega⟩ ⟨R.val % 4096, by omega⟩ n
  have e : (⟨R.val / 4096 * 4096 + R.val % 4096, by omega⟩ : Fin 8192) = R := Fin.ext (by show R.val / 4096 * 4096 + R.val % 4096 = R.val; omega)
  have p2 : val_main_v5 (F := Ideal) x0 x1 (ix3 ⟨R.val / 4096, by omega⟩ ⟨R.val % 4096, by omega⟩ n)
      = if R.val % 4096 < 2 then 0 else gateAt x0 x1 ⟨R.val - 2, by omega⟩ n := by
    rw [past_at]
    split
    · rfl
    · rename_i h
      have h' : ¬R.val % 4096 < 2 := h
      exact gateAt_congr _ _ (by show R.val / 4096 * 4096 + (R.val % 4096 - 2) = R.val - 2; omega) rfl
  have p1 : val_main_v5 (F := Ideal) x0 x1 (ix3 ⟨R.val / 4096, by omega⟩ ⟨1 + R.val % 4096, by omega⟩ n)
      = if R.val % 4096 < 1 then 0 else gateAt x0 x1 ⟨R.val - 1, by omega⟩ n := by
    rw [past_at]
    by_cases h : R.val % 4096 < 1
    · rw [if_pos h, dif_pos (by show 1 + R.val % 4096 < 2; omega)]
    · rw [if_neg h, dif_neg (by show ¬1 + R.val % 4096 < 2; omega)]
      exact gateAt_congr _ _ (by show R.val / 4096 * 4096 + (1 + R.val % 4096 - 2) = R.val - 1; omega) rfl
  have p0 : val_main_v5 (F := Ideal) x0 x1 (ix3 ⟨R.val / 4096, by omega⟩ ⟨2 + R.val % 4096, by omega⟩ n) = gateAt x0 x1 R n := by
    rw [past_at, dif_neg (by show ¬2 + R.val % 4096 < 2; omega)]
    exact gateAt_congr _ _ (by show R.val / 4096 * 4096 + (2 + R.val % 4096 - 2) = R.val; omega) rfl
  dsimp only at hc hu
  rw [p2, p1, p0] at hc
  rw [e] at hu
  unfold val_main_v34 val_main_v33 val_main_v32 val_main_v31 val_main_call1_v5 val_main_call1_v4 val_main_call1_cst_0 val_main_call1_v3
    val_main_call1_v2 val_main_call1_cst val_main_call1_v1 val_main_call1_v0
  show _ = gluAt x0 x1 x2 x3 R n
  unfold gluAt gluEl
  generalize val_main_v30 (F := Ideal) x0 x1 x2 x3 = V at *
  generalize val_main_v4 (F := Ideal) x0 x1 = W at *
  pointwise
  rw [Cert.Mix.tsig_eq, hc, hu]
end Cert.Reference3Ideal.Read
-- ==== Proof.Mix.Project.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.ValueIdx

@[expose] public section

set_option maxRecDepth 16384

/-! The in-projection's wide columns, and the three weights cast beside it. -/

namespace Cert.Kernel4Ideal.Gen
open Idealize.ShloMosaic Idealize.ShloMosaic.TcCoe Idealize.ShloMosaic.Tactic Idealize.SL.Sem Idealize.ShloMosaic.Pipeline

variable (m : (ℓ : Loc nD τ sig) → Buf (Elt Ideal) ℓ) (c : Dev nD) (t : Fin cfg0.N)

theorem lt32 (t : Fin cfg0.N) : t.val < 32 := t.isLt

theorem idx0 : ∀ t : Fin cfg0.N, win0_0.index t 0 = t.val % 4 ∧ win0_0.index t 1 = 0 := by decide +kernel
theorem blk0 (r : Fin 2048) (d : Fin 2048) : iblk m c 0 t (ix2 r d)
    = m ((c : Thread nD τ).loc main_arg0) (ix2 ⟨2048 * (t.val % 4) + r.val, by omega⟩ d) := by
  blk_ext [iblk, V, (idx0 t).1, (idx0 t).2]

theorem idx1 : ∀ t : Fin cfg0.N, win0_1.index t 0 = 0 ∧ win0_1.index t 1 = t.val / 4 + 3 := by decide +kernel
theorem blk1 (r : Fin 2048) (d : Fin 1024) : iblk m c 1 t (ix2 r d)
    = m ((c : Thread nD τ).loc main_arg1) (ix2 r ⟨3072 + (1024 * (t.val / 4) + d.val), by have := lt32 t; omega⟩) := by
  blk_ext [iblk, V, (idx1 t).1, (idx1 t).2]

theorem idx2 : ∀ t : Fin cfg0.N, win0_2.index t 0 = t.val ∧ win0_2.index t 1 = 0 := by decide +kernel
theorem blk2 (r : Fin 32) (d : Fin 2048) : iblk m c 2 t (ix2 r d)
    = m ((c : Thread nD τ).loc main_arg2) (ix2 ⟨32 * t.val + r.val, by have := lt32 t; omega⟩ d) := by
  blk_ext [iblk, V, (idx2 t).1, (idx2 t).2]

theorem idx3 : ∀ t : Fin cfg0.N, win0_3.index t 0 = t.val ∧ win0_3.index t 1 = 0 := by decide +kernel
theorem blk3 (r : Fin 64) (d : Fin 2048) : iblk m c 3 t (ix2 r d)
    = m ((c : Thread nD τ).loc main_arg3) (ix2 ⟨64 * t.val + r.val, by have := lt32 t; omega⟩ d) := by
  blk_ext [iblk, V, (idx3 t).1, (idx3 t).2]

theorem idx4 : ∀ t : Fin cfg0.N, win0_4.index t 0 = t.val ∧ win0_4.index t 1 = 0 := by decide +kernel
theorem blk4 (r : Fin 64) (d : Fin 2048) : iblk m c 4 t (ix2 r d)
    = m ((c : Thread nD τ).loc main_arg4) (ix2 ⟨64 * t.val + r.val, by have := lt32 t; omega⟩ d) := by
  blk_ext [iblk, V, (idx4 t).1, (idx4 t).2]

/-- The wide columns, from the argument arrays. -/
noncomputable def wide (x0 : S8192x2048.Idx → EReal) (x1 : S2048x11264.Idx → EReal) : S8192x8192.Idx → EReal := fun i =>
  ∑ k : Fin 2048, x0 (ix2 (i 0) k) * x1 (ix2 k ⟨3072 + (i 1).val, by have := (i 1).isLt; have h : (i 1).val < 8192 := this; omega⟩)

/-- What a grid point writes, at an element. -/
theorem out5_at (x0 : Vec Ideal S2048x2048 .bf16) (x1 : Vec Ideal S2048x1024 .f32) (x2 : Vec Ideal S32x2048 .f32) (x3 x4 : Vec Ideal S64x2048 .f32)
    (r : Fin 2048) (n : Fin 1024) : out0_5 x0 x1 x2 x3 x4 (ix2 r n) = ∑ k : Fin 2048, x0 (ix2 r k) * x1 (ix2 k n) := by
  unfold out0_5
  simp (disch := decide) only [View.canon_cons_unit_lit', View.ld_unit_lit']
  open_payloads
  pointwise

theorem out6_at (x0 : Vec Ideal S2048x2048 .bf16) (x1 : Vec Ideal S2048x1024 .f32) (x2 : Vec Ideal S32x2048 .f32) (x3 x4 : Vec Ideal S64x2048 .f32)
    (r : Fin 32) (n : Fin 2048) : out0_6 x0 x1 x2 x3 x4 (ix2 r n) = x2 (ix2 r n) := by
  unfold out0_6
  simp (disch := decide) only [View.canon_cons_unit_lit', View.ld_unit_lit']
  open_payloads
  pointwise

theorem out7_at (x0 : Vec Ideal S2048x2048 .bf16) (x1 : Vec Ideal S2048x1024 .f32) (x2 : Vec Ideal S32x2048 .f32) (x3 x4 : Vec Ideal S64x2048 .f32)
    (r : Fin 64) (n : Fin 2048) : out0_7 x0 x1 x2 x3 x4 (ix2 r n) = x3 (ix2 r n) := by
  unfold out0_7
  simp (disch := decide) only [View.canon_cons_unit_lit', View.ld_unit_lit']
  open_payloads
  pointwise

theorem out8_at (x0 : Vec Ideal S2048x2048 .bf16) (x1 : Vec Ideal S2048x1024 .f32) (x2 : Vec Ideal S32x2048 .f32) (x3 x4 : Vec Ideal S64x2048 .f32)
    (r : Fin 64) (n : Fin 2048) : out0_8 x0 x1 x2 x3 x4 (ix2 r n) = x4 (ix2 r n) := by
  unfold out0_8
  simp (disch := decide) only [View.canon_cons_unit_lit', View.ld_unit_lit']
  open_payloads
  pointwise
/-- The wide columns from the arrays of a memory. -/
noncomputable def wideArr : S8192x8192.Idx → EReal :=
  wide (m ((c : Thread nD τ).loc main_arg0)) (m ((c : Thread nD τ).loc main_arg1))

/-- A weight array of a memory. -/
noncomputable def castArr2 : S1024x2048.Idx → EReal := m ((c : Thread nD τ).loc main_arg2)
noncomputable def castArr3 : S2048x2048.Idx → EReal := m ((c : Thread nD τ).loc main_arg3)
noncomputable def castArr4 : S2048x2048.Idx → EReal := m ((c : Thread nD τ).loc main_arg4)

/-- What a point writes, from the argument arrays. -/
theorem block5_at (r : Fin 2048) (n : Fin 1024) :
    out0_5 (iblk m c 0 t) (iblk m c 1 t) (iblk m c 2 t) (iblk m c 3 t) (iblk m c 4 t) (ix2 r n)
      = wideArr m c (ix2 ⟨2048 * (t.val % 4) + r.val, by omega⟩ ⟨1024 * (t.val / 4) + n.val, by have := lt32 t; omega⟩) := by
  rw [out5_at]
  simp only [blk0, blk1]
  rfl
theorem block6_at (r : Fin 32) (n : Fin 2048) :
    out0_6 (iblk m c 0 t) (iblk m c 1 t) (iblk m c 2 t) (iblk m c 3 t) (iblk m c 4 t) (ix2 r n)
      = castArr2 m c (ix2 ⟨32 * t.val + r.val, by have := lt32 t; omega⟩ ⟨2048 * 0 + n.val, by omega⟩) := by
  rw [out6_at, blk2]
  refine congrArg (castArr2 m c) (funext fun a => Fin.ext ?_)
  match a with
  | ⟨0, _⟩ => rfl
  | ⟨1, _⟩ => show n.val = 2048 * 0 + n.val; omega
theorem block7_at (r : Fin 64) (n : Fin 2048) :
    out0_7 (iblk m c 0 t) (iblk m c 1 t) (iblk m c 2 t) (iblk m c 3 t) (iblk m c 4 t) (ix2 r n)
      = castArr3 m c (ix2 ⟨64 * t.val + r.val, by have := lt32 t; omega⟩ ⟨2048 * 0 + n.val, by omega⟩) := by
  rw [out7_at, blk3]
  refine congrArg (castArr3 m c) (funext fun a => Fin.ext ?_)
  match a with
  | ⟨0, _⟩ => rfl
  | ⟨1, _⟩ => show n.val = 2048 * 0 + n.val; omega
theorem block8_at (r : Fin 64) (n : Fin 2048) :
    out0_8 (iblk m c 0 t) (iblk m c 1 t) (iblk m c 2 t) (iblk m c 3 t) (iblk m c 4 t) (ix2 r n)
      = castArr4 m c (ix2 ⟨64 * t.val + r.val, by have := lt32 t; omega⟩ ⟨2048 * 0 + n.val, by omega⟩) := by
  rw [out8_at, blk4]
  refine congrArg (castArr4 m c) (funext fun a => Fin.ext ?_)
  match a with
  | ⟨0, _⟩ => rfl
  | ⟨1, _⟩ => show n.val = 2048 * 0 + n.val; omega

theorem idx5 : ∀ t : Fin cfg0.N, win0_5.index t 0 = t.val % 4 ∧ win0_5.index t 1 = t.val / 4 := by decide +kernel

/-- What a point writes back to output 5 is its block of the result. -/
theorem flushed5_eq : (dats m 0 c).flushed 5 t = ((cfg0.win 5).blk t).view.read (Elt Ideal) (wideArr m c) := by
  rw [Value.flushed5]
  funext y
  have h : t.val < 32 := t.isLt
  have hy0 : (y 0).val < 2048 := (y 0).isLt
  have hy1 : (y 1).val < 1024 := (y 1).isLt
  obtain ⟨e0, e1⟩ := idx5 t
  have hb : ((cfg0.win 5).blk t).view.emb y = ix2 ⟨2048 * (t.val % 4) + (y 0).val, by omega⟩ ⟨1024 * (t.val / 4) + (y 1).val, by omega⟩ := by
    funext a; apply Fin.ext
    match a with
    | ⟨0, _⟩ => show win0_5.index t (0 : Fin 2) * 2048 + 1 * (y 0).val = 2048 * (t.val % 4) + (y 0).val; rw [e0]; omega
    | ⟨1, _⟩ => show win0_5.index t (1 : Fin 2) * 1024 + 1 * (y 1).val = 1024 * (t.val / 4) + (y 1).val; rw [e1]; omega
  have hl : (cfg0.win 5).xinj (grid0.coords t) y = ix2 ⟨(y 0).val, hy0⟩ ⟨(y 1).val, hy1⟩ := by
    funext a; apply Fin.ext
    match a with
    | ⟨0, _⟩ => rfl
    | ⟨1, _⟩ => rfl
  show out0_5 (iblk m c 0 t) (iblk m c 1 t) (iblk m c 2 t) (iblk m c 3 t) (iblk m c 4 t) ((cfg0.win 5).xinj (grid0.coords t) y) = wideArr m c (((cfg0.win 5).blk t).view.emb y)
  rw [hb, hl]
  exact block5_at m c t _ _

/-- Every element of output 5 is in some point's block. -/
theorem covered5 (i : S8192x8192.Idx) : ∃ t : Fin cfg0.N, (cfg0.win 5).flush t = true ∧ i ∈ ((cfg0.win 5).blk t).view.set := by
  have h0 : (i 0).val < 8192 := (i 0).isLt
  have h1 : (i 1).val < 8192 := (i 1).isLt
  obtain ⟨t, ht⟩ : ∃ t : Fin cfg0.N, t.val = (i 0).val / 2048 + 4 * ((i 1).val / 1024) := ⟨⟨(i 0).val / 2048 + 4 * ((i 1).val / 1024), by show (i 0).val / 2048 + 4 * ((i 1).val / 1024) < 32; omega⟩, rfl⟩
  obtain ⟨e0, e1⟩ := idx5 t
  have hb : ((cfg0.win 5).blk t).view.emb (ix2 ⟨(i 0).val % 2048, by omega⟩ ⟨(i 1).val % 1024, by omega⟩ : S2048x1024.Idx) = i := by
    funext a; apply Fin.ext
    match a with
    | ⟨0, _⟩ => show win0_5.index t (0 : Fin 2) * 2048 + 1 * ((i 0).val % 2048) = (i 0).val; rw [e0]; omega
    | ⟨1, _⟩ => show win0_5.index t (1 : Fin 2) * 1024 + 1 * ((i 1).val % 1024) = (i 1).val; rw [e1]; omega
  refine ⟨t, flush0_5 _, ?_⟩
  have h := ((cfg0.win 5).blk t).view.emb_mem_set (ix2 ⟨(i 0).val % 2048, by omega⟩ ⟨(i 1).val % 1024, by omega⟩ : S2048x1024.Idx)
  rwa [hb] at h

/-- Output 5 after the run. -/
theorem final5 : (dats m 0 c).arrAt 5 cfg0.N = wideArr m c :=
  (dats m 0 c).arrAt_eq_of_cover 5 (wideArr m c) (fun t _ => flushed5_eq m c t) (covered5)

theorem idx6 : ∀ t : Fin cfg0.N, win0_6.index t 0 = t.val ∧ win0_6.index t 1 = 0 := by decide +kernel

/-- What a point writes back to output 6 is its block of the result. -/
theorem flushed6_eq : (dats m 0 c).flushed 6 t = ((cfg0.win 6).blk t).view.read (Elt Ideal) (castArr2 m c) := by
  rw [Value.flushed6]
  funext y
  have h : t.val < 32 := t.isLt
  have hy0 : (y 0).val < 32 := (y 0).isLt
  have hy1 : (y 1).val < 2048 := (y 1).isLt
  obtain ⟨e0, e1⟩ := idx6 t
  have hb : ((cfg0.win 6).blk t).view.emb y = ix2 ⟨32 * (t.val) + (y 0).val, by omega⟩ ⟨2048 * (0) + (y 1).val, by omega⟩ := by
    funext a; apply Fin.ext
    match a with
    | ⟨0, _⟩ => show win0_6.index t (0 : Fin 2) * 32 + 1 * (y 0).val = 32 * (t.val) + (y 0).val; rw [e0]; omega
    | ⟨1, _⟩ => show win0_6.index t (1 : Fin 2) * 2048 + 1 * (y 1).val = 2048 * (0) + (y 1).val; rw [e1]; omega
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  show out0_6 (iblk m c 0 t) (iblk m c 1 t) (iblk m c 2 t) (iblk m c 3 t) (iblk m c 4 t) ((cfg0.win 6).xinj (grid0.coords t) y) = castArr2 m c (((cfg0.win 6).blk t).view.emb y)
  rw [hb, hl]
  exact block6_at m c t _ _

/-- Every element of output 6 is in some point's block. -/
theorem covered6 (i : S1024x2048.Idx) : ∃ t : Fin cfg0.N, (cfg0.win 6).flush t = true ∧ i ∈ ((cfg0.win 6).blk t).view.set := by
  have h0 : (i 0).val < 1024 := (i 0).isLt
  have h1 : (i 1).val < 2048 := (i 1).isLt
  obtain ⟨t, ht⟩ : ∃ t : Fin cfg0.N, t.val = (i 0).val / 32 := ⟨⟨(i 0).val / 32, by show (i 0).val / 32 < 32; omega⟩, rfl⟩
  obtain ⟨e0, e1⟩ := idx6 t
  have hb : ((cfg0.win 6).blk t).view.emb (ix2 ⟨(i 0).val % 32, by omega⟩ ⟨(i 1).val % 2048, by omega⟩ : S32x2048.Idx) = i := by
    funext a; apply Fin.ext
    match a with
    | ⟨0, _⟩ => show win0_6.index t (0 : Fin 2) * 32 + 1 * ((i 0).val % 32) = (i 0).val; rw [e0]; omega
    | ⟨1, _⟩ => show win0_6.index t (1 : Fin 2) * 2048 + 1 * ((i 1).val % 2048) = (i 1).val; rw [e1]; omega
  refine ⟨t, flush0_6 _, ?_⟩
  have h := ((cfg0.win 6).blk t).view.emb_mem_set (ix2 ⟨(i 0).val % 32, by omega⟩ ⟨(i 1).val % 2048, by omega⟩ : S32x2048.Idx)
  rwa [hb] at h

/-- Output 6 after the run. -/
theorem final6 : (dats m 0 c).arrAt 6 cfg0.N = castArr2 m c :=
  (dats m 0 c).arrAt_eq_of_cover 6 (castArr2 m c) (fun t _ => flushed6_eq m c t) (covered6)

theorem idx7 : ∀ t : Fin cfg0.N, win0_7.index t 0 = t.val ∧ win0_7.index t 1 = 0 := by decide +kernel

/-- What a point writes back to output 7 is its block of the result. -/
theorem flushed7_eq : (dats m 0 c).flushed 7 t = ((cfg0.win 7).blk t).view.read (Elt Ideal) (castArr3 m c) := by
  rw [Value.flushed7]
  funext y
  have h : t.val < 32 := t.isLt
  have hy0 : (y 0).val < 64 := (y 0).isLt
  have hy1 : (y 1).val < 2048 := (y 1).isLt
  obtain ⟨e0, e1⟩ := idx7 t
  have hb : ((cfg0.win 7).blk t).view.emb y = ix2 ⟨64 * (t.val) + (y 0).val, by omega⟩ ⟨2048 * (0) + (y 1).val, by omega⟩ := by
    funext a; apply Fin.ext
    match a with
    | ⟨0, _⟩ => show win0_7.index t (0 : Fin 2) * 64 + 1 * (y 0).val = 64 * (t.val) + (y 0).val; rw [e0]; omega
    | ⟨1, _⟩ => show win0_7.index t (1 : Fin 2) * 2048 + 1 * (y 1).val = 2048 * (0) + (y 1).val; rw [e1]; omega
  have hl : (cfg0.win 7).xinj (grid0.coords t) y = ix2 ⟨(y 0).val, hy0⟩ ⟨(y 1).val, hy1⟩ := by
    funext a; apply Fin.ext
    match a with
    | ⟨0, _⟩ => rfl
    | ⟨1, _⟩ => rfl
  show out0_7 (iblk m c 0 t) (iblk m c 1 t) (iblk m c 2 t) (iblk m c 3 t) (iblk m c 4 t) ((cfg0.win 7).xinj (grid0.coords t) y) = castArr3 m c (((cfg0.win 7).blk t).view.emb y)
  rw [hb, hl]
  exact block7_at m c t _ _

/-- Every element of output 7 is in some point's block. -/
theorem covered7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  obtain ⟨t, ht⟩ : ∃ t : Fin cfg0.N, t.val = (i 0).val / 64 := ⟨⟨(i 0).val / 64, by show (i 0).val / 64 < 32; omega⟩, rfl⟩
  obtain ⟨e0, e1⟩ := idx7 t
  have hb : ((cfg0.win 7).blk t).view.emb (ix2 ⟨(i 0).val % 64, by omega⟩ ⟨(i 1).val % 2048, by omega⟩ : S64x2048.Idx) = i := by
    funext a; apply Fin.ext
    match a with
    | ⟨0, _⟩ => show win0_7.index t (0 : Fin 2) * 64 + 1 * ((i 0).val % 64) = (i 0).val; rw [e0]; omega
    | ⟨1, _⟩ => show win0_7.index t (1 : Fin 2) * 2048 + 1 * ((i 1).val % 2048) = (i 1).val; rw [e1]; omega
  refine ⟨t, flush0_7 _, ?_⟩
  have h := ((cfg0.win 7).blk t).view.emb_mem_set (ix2 ⟨(i 0).val % 64, by omega⟩ ⟨(i 1).val % 2048, by omega⟩ : S64x2048.Idx)
  rwa [hb] at h

/-- Output 7 after the run. -/
theorem final7 : (dats m 0 c).arrAt 7 cfg0.N = castArr3 m c :=
  (dats m 0 c).arrAt_eq_of_cover 7 (castArr3 m c) (fun t _ => flushed7_eq m c t) (covered7)

theorem idx8 : ∀ t : Fin cfg0.N, win0_8.index t 0 = t.val ∧ win0_8.index t 1 = 0 := by decide +kernel

/-- What a point writes back to output 8 is its block of the result. -/
theorem flushed8_eq : (dats m 0 c).flushed 8 t = ((cfg0.win 8).blk t).view.read (Elt Ideal) (castArr4 m c) := by
  rw [Value.flushed8]
  funext y
  have h : t.val < 32 := t.isLt
  have hy0 : (y 0).val < 64 := (y 0).isLt
  have hy1 : (y 1).val < 2048 := (y 1).isLt
  obtain ⟨e0, e1⟩ := idx8 t
  have hb : ((cfg0.win 8).blk t).view.emb y = ix2 ⟨64 * (t.val) + (y 0).val, by omega⟩ ⟨2048 * (0) + (y 1).val, by omega⟩ := by
    funext a; apply Fin.ext
    match a with
    | ⟨0, _⟩ => show win0_8.index t (0 : Fin 2) * 64 + 1 * (y 0).val = 64 * (t.val) + (y 0).val; rw [e0]; omega
    | ⟨1, _⟩ => show win0_8.index t (1 : Fin 2) * 2048 + 1 * (y 1).val = 2048 * (0) + (y 1).val; rw [e1]; omega
  have hl : (cfg0.win 8).xinj (grid0.coords t) y = ix2 ⟨(y 0).val, hy0⟩ ⟨(y 1).val, hy1⟩ := by
    funext a; apply Fin.ext
    match a with
    | ⟨0, _⟩ => rfl
    | ⟨1, _⟩ => rfl
  show out0_8 (iblk m c 0 t) (iblk m c 1 t) (iblk m c 2 t) (iblk m c 3 t) (iblk m c 4 t) ((cfg0.win 8).xinj (grid0.coords t) y) = castArr4 m c (((cfg0.win 8).blk t).view.emb y)
  rw [hb, hl]
  exact block8_at m c t _ _

/-- Every element of output 8 is in some point's block. -/
theorem covered8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  obtain ⟨t, ht⟩ : ∃ t : Fin cfg0.N, t.val = (i 0).val / 64 := ⟨⟨(i 0).val / 64, by show (i 0).val / 64 < 32; omega⟩, rfl⟩
  obtain ⟨e0, e1⟩ := idx8 t
  have hb : ((cfg0.win 8).blk t).view.emb (ix2 ⟨(i 0).val % 64, by omega⟩ ⟨(i 1).val % 2048, by omega⟩ : S64x2048.Idx) = i := by
    funext a; apply Fin.ext
    match a with
    | ⟨0, _⟩ => show win0_8.index t (0 : Fin 2) * 64 + 1 * ((i 0).val % 64) = (i 0).val; rw [e0]; omega
    | ⟨1, _⟩ => show win0_8.index t (1 : Fin 2) * 2048 + 1 * ((i 1).val % 2048) = (i 1).val; rw [e1]; omega
  refine ⟨t, flush0_8 _, ?_⟩
  have h := ((cfg0.win 8).blk t).view.emb_mem_set (ix2 ⟨(i 0).val % 64, by omega⟩ ⟨(i 1).val % 2048, by omega⟩ : S64x2048.Idx)
  rwa [hb] at h

/-- Output 8 after the run. -/
theorem final8 : (dats m 0 c).arrAt 8 cfg0.N = castArr4 m c :=
  (dats m 0 c).arrAt_eq_of_cover 8 (castArr4 m c) (fun t _ => flushed8_eq m c t) (covered8)
end Cert.Kernel4Ideal.Gen

namespace Cert.Reference4Ideal.Read
open Idealize.ShloMosaic Idealize.ShloMosaic.TcCoe Idealize.ShloMosaic.Tactic
open Cert.Reference4Ideal.Gen Finset

variable (x0 : S8192x2048.Idx → EReal) (x1 : S2048x11264.Idx → EReal)

/-- The reference's wide columns at an element. -/
theorem wide_at (i : S8192x8192.Idx) : val_main_v5 (F := Ideal) x0 x1 i = Cert.Kernel4Ideal.Gen.wide x0 x1 i := by
  obtain ⟨r, n, rfl⟩ : ∃ (r : Fin 8192) (n : Fin 8192), i = ix2 r n := ⟨i 0, i 1, by funext a; fin_cases a <;> rfl⟩
  unfold Cert.Kernel4Ideal.Gen.wide
  unfold val_main_v5 val_main_v4 val_main_v3 val_main_v2 val_main_v1 val_main_v0
  pointwise
end Cert.Reference4Ideal.Read
-- ==== Proof.Mix.Prenorm.lean ====
module

public import proofs.«01_k».proof.Proof.Gen.Kernel5Ideal.Value
public import proofs.«01_k».proof.Proof.Gen.Reference5Ideal.Read
public import proofs.«01_k».proof.Proof.Mix.Spec
public import Idealize.ShloMosaic.Lib.Pipeline.ValueKit
public import Idealize.ShloMosaic.Lib.Pipeline.ReadBack
public import Idealize.ShloMosaic.Lib.ValueIdx
public import Idealize.ShloMosaic.Lib.StableHlo.RunRead

@[expose] public section

set_option maxRecDepth 16384

/-! The layer's first normalisation and the in-projection's narrow columns. -/

namespace Cert.Kernel5Ideal.Gen
open Idealize.ShloMosaic Idealize.ShloMosaic.TcCoe Idealize.ShloMosaic.Tactic Idealize.SL.Sem Idealize.ShloMosaic.Pipeline
open Cert.Mix

variable (m : (ℓ : Loc nD τ sig) → Buf (Elt Ideal) ℓ) (c : Dev nD) (t : Fin cfg0.N)

theorem lt16 (t : Fin cfg0.N) : t.val < 16 := t.isLt

theorem idx0 : ∀ t : Fin cfg0.N, win0_0.index t 0 = t.val ∧ win0_0.index t 1 = 0 := by decide +kernel
theorem input_at (R : Fin 8192) (d : Fin 2048) : V m c main_v0 (ix2 R d)
    = m ((c : Thread nD τ).loc main_arg0) (ix3 ⟨R.val / 4096, by omega⟩ ⟨R.val % 4096, by omega⟩ d) := by
  unfold V
  simp only [hostOps0, List.flatten_cons, List.flatten_nil, List.append_nil, List.cons_append, List.nil_append]
  after_reads_simp
  pointwise
theorem blk0 (r : Fin 512) (d : Fin 2048) : iblk m c 0 t (ix2 r d)
    = m ((c : Thread nD τ).loc main_arg0) (ix3 ⟨(512 * t.val + r.val) / 4096, by have := lt16 t; omega⟩ ⟨(512 * t.val + r.val) % 4096, by omega⟩ d) := by
  refine Eq.trans ?_ (input_at m c ⟨512 * t.val + r.val, by have := lt16 t; omega⟩ d)
  blk_ext [iblk, (idx0 t).1, (idx0 t).2]

theorem idx1 : ∀ t : Fin cfg0.N, win0_1.index t 0 = 0 ∧ win0_1.index t 1 = 0 := by decide +kernel
theorem blk1 (d : Fin 2048) : iblk m c 1 t (ix2 0 d) = m ((c : Thread nD τ).loc main_arg1) (ix2 0 d) := by
  refine Eq.trans ?_ (congrFun (V_main_arg1 m c) (ix2 0 d))
  blk_ext [iblk, (idx1 t).1, (idx1 t).2]

theorem idx2 : ∀ t : Fin cfg0.N, win0_2.index t 0 = 0 ∧ win0_2.index t 1 = 0 := by decide +kernel
theorem blk2 (r : Fin 2048) (d : Fin 3072) : X0_2 m c t (ix2 r d)
    = m ((c : Thread nD τ).loc main_arg2) (ix2 r ⟨d.val, by omega⟩) := by
  unfold X0_2 Pipeline.Window.fill
  rw [dif_pos (moved0_2 t _)]
  obtain ⟨e0, e1⟩ := idx2 t
  refine Eq.trans (congrArg (V m c main_arg2) (funext fun a => Fin.ext ?_)) (congrFun (V_main_arg2 m c) (ix2 r ⟨d.val, by omega⟩))
  match a with
  | ⟨0, _⟩ => show win0_2.index t (0 : Fin 2) * 2048 + 1 * r.val = r.val; omega
  | ⟨1, _⟩ => show win0_2.index t (1 : Fin 2) * 3072 + 1 * d.val = d.val; omega

/-- What a grid point writes, at an element. -/
theorem u_at (r : Fin 512) (n : Fin 2048) :
    (outsAt0 m c t).1 (ix2 r n) = rmsRow (fun k => iblk m c 0 t (ix2 r k)) (fun k => iblk m c 1 t (ix2 0 k)) n := by
  unfold outsAt0
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  open_payloads
  unfold rmsRow
  pointwise

theorem zn_at (r : Fin 512) (n : Fin 3072) :
    (outsAt0 m c t).2 (ix2 r n) = ∑ j : Fin 2048, rmsRow (fun k => iblk m c 0 t (ix2 r k)) (fun k => iblk m c 1 t (ix2 0 k)) j * X0_2 m c t (ix2 j n) := by
  unfold outsAt0
  dsimp only
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread]
  open_payloads
  unfold rmsRow
  pointwise

/-- The normalised stream, from the argument arrays. -/
noncomputable def normOut (x0 : S2x4096x2048.Idx → EReal) (x1 : S1x2048.Idx → EReal) : S8192x2048.Idx → EReal := fun i =>
  rmsRow (fun k => x0 (ix3 ⟨(i 0).val / 4096, by have h : (i 0).val < 8192 := (i 0).isLt; omega⟩ ⟨(i 0).val % 4096, by omega⟩ k)) (fun k => x1 (ix2 0 k)) (i 1)

/-- The narrow columns, from the argument arrays. -/
noncomputable def narrow (x0 : S2x4096x2048.Idx → EReal) (x1 : S1x2048.Idx → EReal) (x2 : S2048x11264.Idx → EReal) : S8192x3072.Idx → EReal := fun i =>
  ∑ j : Fin 2048, normOut x0 x1 (ix2 (i 0) j) * x2 (ix2 j ⟨(i 1).val, by have h : (i 1).val < 3072 := (i 1).isLt; omega⟩)

/-- The same from the arrays of a memory. -/
noncomputable def normArr : S8192x2048.Idx → EReal :=
  normOut (m ((c : Thread nD τ).loc main_arg0)) (m ((c : Thread nD τ).loc main_arg1))
noncomputable def narrowArr : S8192x3072.Idx → EReal :=
  narrow (m ((c : Thread nD τ).loc main_arg0)) (m ((c : Thread nD τ).loc main_arg1)) (m ((c : Thread nD τ).loc main_arg2))

/-- What a point writes, from the argument arrays. -/
theorem block3_at (r : Fin 512) (n : Fin 2048) :
    (outsAt0 m c t).1 (ix2 r n) = normArr m c (ix2 ⟨512 * t.val + r.val, by have := lt16 t; omega⟩ ⟨2048 * 0 + n.val, by omega⟩) := by
  rw [u_at]
  simp only [blk0, blk1]
  rw [show (⟨2048 * 0 + n.val, _⟩ : Fin 2048) = n from Fin.ext (by show 2048 * 0 + n.val = n.val; omega)]
  rfl

theorem block4_at (r : Fin 512) (n : Fin 3072) :
    (outsAt0 m c t).2 (ix2 r n) = narrowArr m c (ix2 ⟨512 * t.val + r.val, by have := lt16 t; omega⟩ ⟨3072 * 0 + n.val, by omega⟩) := by
  rw [zn_at]
  simp only [blk0, blk1, blk2]
  rw [show (⟨3072 * 0 + n.val, _⟩ : Fin 3072) = n from Fin.ext (by show 3072 * 0 + n.val = n.val; omega)]
  rfl

theorem idx3 : ∀ t : Fin cfg0.N, win0_3.index t 0 = t.val ∧ win0_3.index t 1 = 0 := by decide +kernel

/-- What a point writes back to output 3 is its block of the result. -/
theorem flushed3_eq : (dats m 0 c).flushed 3 t = ((cfg0.win 3).blk t).view.read (Elt Ideal) (normArr m c) := by
  rw [Value.flushed3]
  funext y
  have h : t.val < 16 := t.isLt
  have hy0 : (y 0).val < 512 := (y 0).isLt
  have hy1 : (y 1).val < 2048 := (y 1).isLt
  obtain ⟨e0, e1⟩ := idx3 t
  have hb : ((cfg0.win 3).blk t).view.emb y = ix2 ⟨512 * (t.val) + (y 0).val, by omega⟩ ⟨2048 * (0) + (y 1).val, by omega⟩ := by
    funext a; apply Fin.ext
    match a with
    | ⟨0, _⟩ => show win0_3.index t (0 : Fin 2) * 512 + 1 * (y 0).val = 512 * (t.val) + (y 0).val; rw [e0]; omega
    | ⟨1, _⟩ => show win0_3.index t (1 : Fin 2) * 2048 + 1 * (y 1).val = 2048 * (0) + (y 1).val; rw [e1]; omega
  have hl : (cfg0.win 3).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t).1 ((cfg0.win 3).xinj (grid0.coords t) y) = normArr m c (((cfg0.win 3).blk t).view.emb y)
  rw [hb, hl]
  exact block3_at m c t _ _

/-- Every element of output 3 is in some point's block. -/
theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht⟩ : ∃ t : Fin cfg0.N, t.val = (i 0).val / 512 := ⟨⟨(i 0).val / 512, by show (i 0).val / 512 < 16; omega⟩, rfl⟩
  obtain ⟨e0, e1⟩ := idx3 t
  have hb : ((cfg0.win 3).blk t).view.emb (ix2 ⟨(i 0).val % 512, by omega⟩ ⟨(i 1).val % 2048, by omega⟩ : S512x2048.Idx) = i := by
    funext a; apply Fin.ext
    match a with
    | ⟨0, _⟩ => show win0_3.index t (0 : Fin 2) * 512 + 1 * ((i 0).val % 512) = (i 0).val; rw [e0]; omega
    | ⟨1, _⟩ => show win0_3.index t (1 : Fin 2) * 2048 + 1 * ((i 1).val % 2048) = (i 1).val; rw [e1]; omega
  refine ⟨t, flush0_3 _, ?_⟩
  have h := ((cfg0.win 3).blk t).view.emb_mem_set (ix2 ⟨(i 0).val % 512, by omega⟩ ⟨(i 1).val % 2048, by omega⟩ : S512x2048.Idx)
  rwa [hb] at h

/-- Output 3 after the run. -/
theorem final3 : (dats m 0 c).arrAt 3 cfg0.N = normArr m c :=
  (dats m 0 c).arrAt_eq_of_cover 3 (normArr m c) (fun t _ => flushed3_eq m c t) (covered3)

theorem idx4 : ∀ t : Fin cfg0.N, win0_4.index t 0 = t.val ∧ win0_4.index t 1 = 0 := by decide +kernel

/-- What a point writes back to output 4 is its block of the result. -/
theorem flushed4_eq : (dats m 0 c).flushed 4 t = ((cfg0.win 4).blk t).view.read (Elt Ideal) (narrowArr m c) := by
  rw [Value.flushed4]
  funext y
  have h : t.val < 16 := t.isLt
  have hy0 : (y 0).val < 512 := (y 0).isLt
  have hy1 : (y 1).val < 3072 := (y 1).isLt
  obtain ⟨e0, e1⟩ := idx4 t
  have hb : ((cfg0.win 4).blk t).view.emb y = ix2 ⟨512 * (t.val) + (y 0).val, by omega⟩ ⟨3072 * (0) + (y 1).val, by omega⟩ := by
    funext a; apply Fin.ext
    match a with
    | ⟨0, _⟩ => show win0_4.index t (0 : Fin 2) * 512 + 1 * (y 0).val = 512 * (t.val) + (y 0).val; rw [e0]; omega
    | ⟨1, _⟩ => show win0_4.index t (1 : Fin 2) * 3072 + 1 * (y 1).val = 3072 * (0) + (y 1).val; rw [e1]; omega
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t).2 ((cfg0.win 4).xinj (grid0.coords t) y) = narrowArr m c (((cfg0.win 4).blk t).view.emb y)
  rw [hb, hl]
  exact block4_at m c t _ _

/-- Every element of output 4 is in some point's block. -/
theorem covered4 (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  obtain ⟨t, ht⟩ : ∃ t : Fin cfg0.N, t.val = (i 0).val / 512 := ⟨⟨(i 0).val / 512, by show (i 0).val / 512 < 16; omega⟩, rfl⟩
  obtain ⟨e0, e1⟩ := idx4 t
  have hb : ((cfg0.win 4).blk t).view.emb (ix2 ⟨(i 0).val % 512, by omega⟩ ⟨(i 1).val % 3072, by omega⟩ : S512x3072.Idx) = i := by
    funext a; apply Fin.ext
    match a with
    | ⟨0, _⟩ => show win0_4.index t (0 : Fin 2) * 512 + 1 * ((i 0).val % 512) = (i 0).val; rw [e0]; omega
    | ⟨1, _⟩ => show win0_4.index t (1 : Fin 2) * 3072 + 1 * ((i 1).val % 3072) = (i 1).val; rw [e1]; omega
  refine ⟨t, flush0_4 _, ?_⟩
  have h := ((cfg0.win 4).blk t).view.emb_mem_set (ix2 ⟨(i 0).val % 512, by omega⟩ ⟨(i 1).val % 3072, by omega⟩ : S512x3072.Idx)
  rwa [hb] at h

/-- Output 4 after the run. -/
theorem final4 : (dats m 0 c).arrAt 4 cfg0.N = narrowArr m c :=
  (dats m 0 c).arrAt_eq_of_cover 4 (narrowArr m c) (fun t _ => flushed4_eq m c t) (covered4)
end Cert.Kernel5Ideal.Gen

namespace Cert.Reference5Ideal.Read
open Idealize.ShloMosaic Idealize.ShloMosaic.TcCoe Idealize.ShloMosaic.Tactic
open Cert.Mix Cert.Reference5Ideal.Gen Finset

variable (x0 : S2x4096x2048.Idx → EReal) (x1 : S1x2048.Idx → EReal) (x2 : S2048x11264.Idx → EReal)

/-- The reference's results at an element. -/
theorem norm_at (i : S8192x2048.Idx) : val_main_v16 (F := Ideal) x0 x1 i = Cert.Kernel5Ideal.Gen.normOut x0 x1 i := by
  obtain ⟨r, n, rfl⟩ : ∃ (r : Fin 8192) (n : Fin 2048), i = ix2 r n := ⟨i 0, i 1, by funext a; fin_cases a <;> rfl⟩
  unfold Cert.Kernel5Ideal.Gen.normOut rmsRow
  unfold val_main_v16 val_main_v15 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem narrow_at (i : S8192x3072.Idx) : val_main_v18 (F := Ideal) x0 x1 x2 i = Cert.Kernel5Ideal.Gen.narrow x0 x1 x2 i := by
  obtain ⟨r, n, rfl⟩ : ∃ (r : Fin 8192) (n : Fin 3072), i = ix2 r n := ⟨i 0, i 1, by funext a; fin_cases a <;> rfl⟩
  unfold Cert.Kernel5Ideal.Gen.narrow Cert.Kernel5Ideal.Gen.normOut rmsRow
  unfold val_main_v18 val_main_v17 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
end Cert.Reference5Ideal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Mix.Frames
public import proofs.«01_k».proof.Proof.Mix.Pre
public import proofs.«01_k».proof.Proof.Mix.Down
public import proofs.«01_k».proof.Proof.Mix.UpRef
public import proofs.«01_k».proof.Proof.Mix.Project
public import proofs.«01_k».proof.Proof.Mix.Prenorm
public import Idealize.ShloMosaic.Adequacy
public import Idealize.ShloMosaic.Init

@[expose] public section

noncomputable section

namespace Cert.Proof

open Idealize.ShloMosaic Idealize.SL.Sem Cert.Kernel

theorem frame_ref : @quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : @algebraic_KernelIdeal_ReferenceIdeal_pre_finite Cert.KernelIdeal.Gen.facts Cert.ReferenceIdeal.Gen.facts Cert.Mix.pre_facts := by
  intro m g m' g' hpre hag
  refine ⟨fun c => Cert.KernelIdeal.Value.G21 m c, fun c => Cert.KernelIdeal.Value.G22 m c, Cert.KernelIdeal.Value.run (F := Ideal) m g,
    (θ_run Cert.ReferenceIdeal.defs _ _).mono (fun r h c => ?_) (Cert.ReferenceIdeal.Value.run (F := Ideal) m' g')⟩
  obtain ⟨Z, W, hF⟩ := Cert.Mix.finite_of_pre m hpre c
  obtain ⟨a0, a1, a2, a3, a4, a5, a6, a7, a8, a9⟩ := hag c
  refine ⟨(h c).1.trans ?_, (h c).2.1.trans ?_, (h c).2.2⟩
  · refine (Cert.ReferenceIdeal.Read.val_main_v259_eq (F := Ideal) _).trans (funext fun i => ?_)
    refine Eq.trans ?_ (Cert.KernelIdeal.Gen.G21_eq hF i).symm
    rw [← a0, ← a1, ← a2, ← a3, ← a4, ← a5, ← a6, ← a7, ← a8]
  · refine (Cert.ReferenceIdeal.Read.val_main_v261_eq (F := Ideal) _).trans (funext fun i => ?_)
    refine Eq.trans ?_ (Cert.KernelIdeal.Gen.G22_eq hF i).symm
    rw [← a0, ← a1, ← a2, ← a3, ← a4, ← a5, ← a6, ← a7, ← a8, ← a9]

theorem frame_ref2 : @quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref3 : @quiescent_Reference3Ideal Cert.Reference3Ideal.Gen.facts := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_ref4 : @quiescent_Reference4Ideal Cert.Reference4Ideal.Gen.facts := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem frame_ref5 : @quiescent_Reference5Ideal Cert.Reference5Ideal.Gen.facts := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic2 : @algebraic_Kernel2Ideal_Reference2Ideal Cert.Kernel2Ideal.Gen.facts Cert.Reference2Ideal.Gen.facts := by
  intro m g m' g' _ hag
  refine ⟨fun c => Cert.Kernel2Ideal.Gen.outArr m c,
    (θ_run Cert.Kernel2Ideal.defs _ _).mono (fun r h c => ⟨(h c).1.trans (Cert.Kernel2Ideal.Gen.final4 m c), (h c).2⟩)
      (Cert.Kernel2Ideal.Value.run_blocks (F := Ideal) m g),
    (θ_run Cert.Reference2Ideal.defs _ _).mono (fun r h c => ?_) (Cert.Reference2Ideal.Value.run (F := Ideal) m' g')⟩
  obtain ⟨a0, a1, a2, a3⟩ := hag c
  refine ⟨(h c).1.trans ?_, (h c).2⟩
  · refine (Cert.Reference2Ideal.Read.val_main_v19_eq (F := Ideal) _ _ _ _).trans (funext fun i => ?_)
    refine (Cert.Reference2Ideal.Read.out_at _ _ _ _ i).trans ?_
    unfold Cert.Kernel2Ideal.Gen.outArr
    beta_reduce
    rw [← a0, ← a1, ← a2, ← a3]

theorem algebraic3 : @algebraic_Kernel3Ideal_Reference3Ideal Cert.Kernel3Ideal.Gen.facts Cert.Reference3Ideal.Gen.facts := by
  intro m g m' g' _ hag
  refine ⟨fun c => Cert.Kernel3Ideal.Gen.gluArr m c, fun c => Cert.Kernel3Ideal.Gen.castArr m c,
    (θ_run Cert.Kernel3Ideal.defs _ _).mono (fun r h c => ⟨(h c).1.trans (Cert.Kernel3Ideal.Gen.final6 m c), (h c).2.1.trans (Cert.Kernel3Ideal.Gen.final7 m c), (h c).2.2⟩)
      (Cert.Kernel3Ideal.Value.run_blocks (F := Ideal) m g),
    (θ_run Cert.Reference3Ideal.defs _ _).mono (fun r h c => ?_) (Cert.Reference3Ideal.Value.run (F := Ideal) m' g')⟩
  obtain ⟨a0, a1, a2, a3, a4⟩ := hag c
  refine ⟨(h c).1.trans ?_, (h c).2.1.trans ?_, (h c).2.2⟩
  · refine (Cert.Reference3Ideal.Read.val_main_v34_eq (F := Ideal) _ _).trans (funext fun i => ?_)
    refine (Cert.Reference3Ideal.Read.glu_at _ _ _ _ i).trans ?_
    unfold Cert.Kernel3Ideal.Gen.gluArr
    beta_reduce
    rw [← a0, ← a1, ← a2, ← a3]
  · refine (Cert.Reference3Ideal.Read.val_main_v35_eq (F := Ideal) _).trans (funext fun i => ?_)
    unfold Cert.Kernel3Ideal.Gen.castArr
    beta_reduce
    rw [← a4]
    rfl

theorem algebraic4 : @algebraic_Kernel4Ideal_Reference4Ideal Cert.Kernel4Ideal.Gen.facts Cert.Reference4Ideal.Gen.facts := by
  intro m g m' g' _ hag
  refine ⟨fun c => Cert.Kernel4Ideal.Gen.wideArr m c, fun c => Cert.Kernel4Ideal.Gen.castArr2 m c, fun c => Cert.Kernel4Ideal.Gen.castArr3 m c, fun c => Cert.Kernel4Ideal.Gen.castArr4 m c,
    (θ_run Cert.Kernel4Ideal.defs _ _).mono (fun r h c => ⟨(h c).1.trans (Cert.Kernel4Ideal.Gen.final5 m c), (h c).2.1.trans (Cert.Kernel4Ideal.Gen.final6 m c), (h c).2.2.1.trans (Cert.Kernel4Ideal.Gen.final7 m c), (h c).2.2.2.1.trans (Cert.Kernel4Ideal.Gen.final8 m c), (h c).2.2.2.2⟩)
      (Cert.Kernel4Ideal.Value.run_blocks (F := Ideal) m g),
    (θ_run Cert.Reference4Ideal.defs _ _).mono (fun r h c => ?_) (Cert.Reference4Ideal.Value.run (F := Ideal) m' g')⟩
  obtain ⟨a0, a1, a2, a3, a4⟩ := hag c
  refine ⟨(h c).1.trans ?_, (h c).2.1.trans ?_, (h c).2.2.1.trans ?_, (h c).2.2.2.1.trans ?_, (h c).2.2.2.2⟩
  · refine (Cert.Reference4Ideal.Read.val_main_v5_eq (F := Ideal) _ _).trans (funext fun i => ?_)
    refine (Cert.Reference4Ideal.Read.wide_at _ _ i).trans ?_
    unfold Cert.Kernel4Ideal.Gen.wideArr
    beta_reduce
    rw [← a0, ← a1]
  · refine (Cert.Reference4Ideal.Read.val_main_v6_eq (F := Ideal) _).trans (funext fun i => ?_)
    unfold Cert.Kernel4Ideal.Gen.castArr2
    beta_reduce
    rw [← a2]
    rfl
  · refine (Cert.Reference4Ideal.Read.val_main_v7_eq (F := Ideal) _).trans (funext fun i => ?_)
    unfold Cert.Kernel4Ideal.Gen.castArr3
    beta_reduce
    rw [← a3]
    rfl
  · refine (Cert.Reference4Ideal.Read.val_main_v8_eq (F := Ideal) _).trans (funext fun i => ?_)
    unfold Cert.Kernel4Ideal.Gen.castArr4
    beta_reduce
    rw [← a4]
    rfl

theorem algebraic5 : @algebraic_Kernel5Ideal_Reference5Ideal Cert.Kernel5Ideal.Gen.facts Cert.Reference5Ideal.Gen.facts := by
  intro m g m' g' _ hag
  refine ⟨fun c => Cert.Kernel5Ideal.Gen.normArr m c, fun c => Cert.Kernel5Ideal.Gen.narrowArr m c,
    (θ_run Cert.Kernel5Ideal.defs _ _).mono (fun r h c => ⟨(h c).1.trans (Cert.Kernel5Ideal.Gen.final3 m c), (h c).2.1.trans (Cert.Kernel5Ideal.Gen.final4 m c), (h c).2.2⟩)
      (Cert.Kernel5Ideal.Value.run_blocks (F := Ideal) m g),
    (θ_run Cert.Reference5Ideal.defs _ _).mono (fun r h c => ?_) (Cert.Reference5Ideal.Value.run (F := Ideal) m' g')⟩
  obtain ⟨a0, a1, a2⟩ := hag c
  refine ⟨(h c).1.trans ?_, (h c).2.1.trans ?_, (h c).2.2⟩
  · refine (Cert.Reference5Ideal.Read.val_main_v16_eq (F := Ideal) _ _).trans (funext fun i => ?_)
    refine (Cert.Reference5Ideal.Read.norm_at _ _ i).trans ?_
    unfold Cert.Kernel5Ideal.Gen.normArr
    beta_reduce
    rw [← a0, ← a1]
  · refine (Cert.Reference5Ideal.Read.val_main_v18_eq (F := Ideal) _ _ _).trans (funext fun i => ?_)
    refine (Cert.Reference5Ideal.Read.narrow_at _ _ _ i).trans ?_
    unfold Cert.Kernel5Ideal.Gen.narrowArr
    beta_reduce
    rw [← a0, ← a1, ← a2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Mix.pre_facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    Cert.Mix.preserves, algebraic,
    trivial, algebraic2,
    trivial, algebraic3,
    trivial, algebraic4,
    trivial, algebraic5⟩

end Cert.Proof

end
